-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x768 : Shape := ⟨3, ![1, 2048, 768]⟩
abbrev S12x768x64 : Shape := ⟨3, ![12, 768, 64]⟩
abbrev S12x64x768 : Shape := ⟨3, ![12, 64, 768]⟩
abbrev S768 : Shape := ⟨1, ![768]⟩
abbrev S768x8 : Shape := ⟨2, ![768, 8]⟩
abbrev S8x768x512 : Shape := ⟨3, ![8, 768, 512]⟩
abbrev S8x512 : Shape := ⟨2, ![8, 512]⟩
abbrev S8x512x768 : Shape := ⟨3, ![8, 512, 768]⟩
abbrev S8x768 : Shape := ⟨2, ![8, 768]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S12x768x64 : S_.BroadcastsInDim S12x768x64 (![] : Fin 0 → Fin S12x768x64.rank)
  reducesTo_S12x768x64_S_d0_1_2 : S12x768x64.ReducesTo [0, 1, 2] S_
  bcast_S_S768 : S_.BroadcastsInDim S768 (![] : Fin 0 → Fin S768.rank)
  reducesTo_S768_S_d0 : S768.ReducesTo [0] S_
  bcast_S_S768x8 : S_.BroadcastsInDim S768x8 (![] : Fin 0 → Fin S768x8.rank)
  reducesTo_S768x8_S_d0_1 : S768x8.ReducesTo [0, 1] S_

variable [Facts]

def fn_part1 {F : FTy → Type} [FloatOps F] (main_arg6 : FVec F S768 .f32) (main_arg7 : FVec F S768x8 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg6
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x8 .f32 := Host.absf main_arg7
  let main_cst_8 : FVec F S_ .f32 := constant S_ .f32 0x7F800000#32
  let main_v25 : FVec F S768x8 .f32 := broadcastInDim S768x8 ![] bcast_S_S768x8 main_cst_8
  let main_v26 : IVec S768x8 1 := cmpf .olt main_v24 main_v25
  let main_c_9 : IVec S_ 1 := constantI S_ 1 1#1
  let main_v27 : IVec S_ 1 := (fun x v => Host.reduce IntOp.andi x v reducesTo_S768x8_S_d0_1 h_S_) main_v26 main_c_9
  let main_v28 : IVec S_ 1 := andi main_v23 main_v27
  main_v28

def fn {F : FTy → Type} [FloatOps F] (main_arg0 : FVec F S1x2048x768 .f32) (main_arg1 : FVec F S12x768x64 .f32) (main_arg2 : FVec F S12x768x64 .f32) (main_arg3 : FVec F S12x768x64 .f32) (main_arg4 : FVec F S12x64x768 .f32) (main_arg5 : FVec F S768 .f32) (main_arg6 : FVec F S768 .f32) (main_arg7 : FVec F S768x8 .f32) (main_arg8 : FVec F S8x768x512 .f32) (main_arg9 : FVec F S8x512 .f32) (main_arg10 : FVec F S8x512x768 .f32) (main_arg11 : FVec F S8x768 .f32) (main_arg12 : FVec F S768 .f32) (main_arg13 : FVec F S768 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S12x768x64 .f32 := Host.absf main_arg1
  let main_cst_0 : FVec F S_ .f32 := constant S_ .f32 0x7F800000#32
  let main_v5 : FVec F S12x768x64 .f32 := broadcastInDim S12x768x64 ![] bcast_S_S12x768x64 main_cst_0
  let main_v6 : IVec S12x768x64 1 := cmpf .olt main_v4 main_v5
  let main_c_1 : IVec S_ 1 := constantI S_ 1 1#1
  let main_v7 : IVec S_ 1 := (fun x v => Host.reduce IntOp.andi x v reducesTo_S12x768x64_S_d0_1_2 h_S_) main_v6 main_c_1
  let main_v8 : IVec S_ 1 := andi main_v3 main_v7
  let main_v9 : FVec F S12x768x64 .f32 := Host.absf main_arg2
  let main_cst_2 : FVec F S_ .f32 := constant S_ .f32 0x7F800000#32
  let main_v10 : FVec F S12x768x64 .f32 := broadcastInDim S12x768x64 ![] bcast_S_S12x768x64 main_cst_2
  let main_v11 : IVec S12x768x64 1 := cmpf .olt main_v9 main_v10
  let main_c_3 : IVec S_ 1 := constantI S_ 1 1#1
  let main_v12 : IVec S_ 1 := (fun x v => Host.reduce IntOp.andi x v reducesTo_S12x768x64_S_d0_1_2 h_S_) main_v11 main_c_3
  let main_v13 : IVec S_ 1 := andi main_v8 main_v12
  let main_v14 : FVec F S768 .f32 := Host.absf main_arg5
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg6 main_arg7 main_v13 main_v16
-- ==== Kernel.lean ====
abbrev S1x2048x768 : Shape := ⟨3, ![1, 2048, 768]⟩
abbrev S12x768x64 : Shape := ⟨3, ![12, 768, 64]⟩
abbrev S12x64x768 : Shape := ⟨3, ![12, 64, 768]⟩
abbrev S768 : Shape := ⟨1, ![768]⟩
abbrev S768x8 : Shape := ⟨2, ![768, 8]⟩
abbrev S8x768x512 : Shape := ⟨3, ![8, 768, 512]⟩
abbrev S8x512 : Shape := ⟨2, ![8, 512]⟩
abbrev S8x512x768 : Shape := ⟨3, ![8, 512, 768]⟩
abbrev S8x768 : Shape := ⟨2, ![8, 768]⟩
abbrev S2048x768 : Shape := ⟨2, ![2048, 768]⟩
abbrev S768x12x64 : Shape := ⟨3, ![768, 12, 64]⟩
abbrev S768x768 : Shape := ⟨2, ![768, 768]⟩
abbrev S768x1536 : Shape := ⟨2, ![768, 1536]⟩
abbrev S_ : Shape := ⟨0, ![]⟩
abbrev S768x128 : Shape := ⟨2, ![768, 128]⟩
abbrev S1x768 : Shape := ⟨2, ![1, 768]⟩
abbrev S8x1x512 : Shape := ⟨3, ![8, 1, 512]⟩
abbrev S8x1x768 : Shape := ⟨3, ![8, 1, 768]⟩
abbrev S2048x128 : Shape := ⟨2, ![2048, 128]⟩
abbrev S2048x1536 : Shape := ⟨2, ![2048, 1536]⟩
abbrev S256x768 : Shape := ⟨2, ![256, 768]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S2048x1 : Shape := ⟨2, ![2048, 1]⟩
abbrev S1x768x512 : Shape := ⟨3, ![1, 768, 512]⟩
abbrev S1x1x512 : Shape := ⟨3, ![1, 1, 512]⟩
abbrev S1x512x768 : Shape := ⟨3, ![1, 512, 768]⟩
abbrev S1x1x768 : Shape := ⟨3, ![1, 1, 768]⟩
abbrev S768x512 : Shape := ⟨2, ![768, 512]⟩
abbrev S2048x512 : Shape := ⟨2, ![2048, 512]⟩
abbrev S1x512 : Shape := ⟨2, ![1, 512]⟩
abbrev S512x768 : Shape := ⟨2, ![512, 768]⟩

abbrev nBuf : Space → Nat
  | .hbm => 36
  | .vmem => 24
  | .smem => 0
  | _ => 0

abbrev bufTy : (tb : Table) → Fin (tcTables nBuf tb) → BufTy
  | .hbm, ⟨0, _⟩ => ⟨S1x2048x768, .f32⟩
  | .hbm, ⟨1, _⟩ => ⟨S12x768x64, .f32⟩
  | .hbm, ⟨2, _⟩ => ⟨S12x768x64, .f32⟩
  | .hbm, ⟨3, _⟩ => ⟨S12x768x64, .f32⟩
  | .hbm, ⟨4, _⟩ => ⟨S12x64x768, .f32⟩
  | .hbm, ⟨5, _⟩ => ⟨S768, .f32⟩
  | .hbm, ⟨6, _⟩ => ⟨S768, .f32⟩
  | .hbm, ⟨7, _⟩ => ⟨S768x8, .f32⟩
  | .hbm, ⟨8, _⟩ => ⟨S8x768x512, .f32⟩
  | .hbm, ⟨9, _⟩ => ⟨S8x512, .f32⟩
  | .hbm, ⟨10, _⟩ => ⟨S8x512x768, .f32⟩
  | .hbm, ⟨11, _⟩ => ⟨S8x768, .f32⟩
  | .hbm, ⟨12, _⟩ => ⟨S768, .f32⟩
  | .hbm, ⟨13, _⟩ => ⟨S768, .f32⟩
  | .hbm, ⟨14, _⟩ => ⟨S2048x768, .f32⟩
  | .hbm, ⟨15, _⟩ => ⟨S768x12x64, .f32⟩
  | .hbm, ⟨16, _⟩ => ⟨S768x768, .f32⟩
  | .hbm, ⟨17, _⟩ => ⟨S768x12x64, .f32⟩
  | .hbm, ⟨18, _⟩ => ⟨S768x768, .f32⟩
  | .hbm, ⟨19, _⟩ => ⟨S768x12x64, .f32⟩
  | .hbm, ⟨20, _⟩ => ⟨S768x768, .f32⟩
  | .hbm, ⟨21, _⟩ => ⟨S768x1536, .f32⟩
  | .hbm, ⟨22, _⟩ => ⟨S768x768, .f32⟩
  | .hbm, ⟨23, _⟩ => ⟨S_, .i32⟩
  | .hbm, ⟨24, _⟩ => ⟨S_, .f32⟩
  | .hbm, ⟨25, _⟩ => ⟨S768x128, .f32⟩
  | .hbm, ⟨26, _⟩ => ⟨S1x768, .f32⟩
  | .hbm, ⟨27, _⟩ => ⟨S1x768, .f32⟩
  | .hbm, ⟨28, _⟩ => ⟨S1x768, .f32⟩
  | .hbm, ⟨29, _⟩ => ⟨S1x768, .f32⟩
  | .hbm, ⟨30, _⟩ => ⟨S8x1x512, .f32⟩
  | .hbm, ⟨31, _⟩ => ⟨S8x1x768, .f32⟩
  | .hbm, ⟨32, _⟩ => ⟨S2048x768, .f32⟩
  | .hbm, ⟨33, _⟩ => ⟨S2048x128, .f32⟩
  | .hbm, ⟨34, _⟩ => ⟨S2048x768, .f32⟩
  | .hbm, ⟨35, _⟩ => ⟨S1x2048x768, .f32⟩
  | .local _ .vmem, ⟨0, _⟩ => ⟨S1x768, .f32⟩
  | .local _ .vmem, ⟨1, _⟩ => ⟨S1x768, .f32⟩
  | .local _ .vmem, ⟨2, _⟩ => ⟨S768x128, .f32⟩
  | .local _ .vmem, ⟨3, _⟩ => ⟨S2048x768, .f32⟩
  | .local _ .vmem, ⟨4, _⟩ => ⟨S2048x128, .f32⟩
  | .local _ .vmem, ⟨5, _⟩ => ⟨S2048x768, .f32⟩
  | .local _ .vmem, ⟨6, _⟩ => ⟨S768x768, .f32⟩
  | .local _ .vmem, ⟨7, _⟩ => ⟨S2048x1536, .f32⟩
  | .local _ .vmem, ⟨8, _⟩ => ⟨S768x768, .f32⟩
  | .local _ .vmem, ⟨9, _⟩ => ⟨S768x1536, .f32⟩
  | .local _ .vmem, ⟨10, _⟩ => ⟨S2048x768, .f32⟩
  | .local _ .vmem, ⟨11, _⟩ => ⟨S2048x128, .f32⟩
  | .local _ .vmem, ⟨12, _⟩ => ⟨S1x768x512, .f32⟩
  | .local _ .vmem, ⟨13, _⟩ => ⟨S1x768x512, .f32⟩
  | .local _ .vmem, ⟨14, _⟩ => ⟨S1x1x512, .f32⟩
  | .local _ .vmem, ⟨15, _⟩ => ⟨S1x1x512, .f32⟩
  | .local _ .vmem, ⟨16, _⟩ => ⟨S1x512x768, .f32⟩
  | .local _ .vmem, ⟨17, _⟩ => ⟨S1x512x768, .f32⟩
  | .local _ .vmem, ⟨18, _⟩ => ⟨S1x1x768, .f32⟩
  | .local _ .vmem, ⟨19, _⟩ => ⟨S1x1x768, .f32⟩
  | .local _ .vmem, ⟨20, _⟩ => ⟨S1x768, .f32⟩
  | .local _ .vmem, ⟨21, _⟩ => ⟨S1x768, .f32⟩
  | .local _ .vmem, ⟨22, _⟩ => ⟨S2048x768, .f32⟩
  | .local _ .vmem, ⟨23, _⟩ => ⟨S2048x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_call0_v0 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16_0 : Ref sig .tc := ⟨.hbm, 32, rfl⟩
abbrev main_call0_v16_1 : Ref sig .tc := ⟨.hbm, 33, rfl⟩
abbrev main_call0_v17 : Ref sig .tc := ⟨.hbm, 34, rfl⟩
abbrev main_v0 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scoped0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_scratch0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem7_0 : DmaSem sig := 17
abbrev cc1_sem8_0 : DmaSem sig := 18

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c8_i32 : BitVec 32 := 8#32
  let v4 : BitVec 1 := Scalar.cmpi .sle arg0 c8_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off1 (i : grid0.Coords) : Fin 2 → Nat :=
  let arg0 : BitVec 32 := BitVec.ofNat 32 (i 0).val
  let c1_i32_3 : BitVec 32 := 1#32
  let v11 : BitVec 32 := Scalar.subi arg0 c1_i32_3
  let c256_i32 : BitVec 32 := 256#32
  let v12 : BitVec 32 := Scalar.muli v11 c256_i32
  let v13 : Index := Scalar.indexCast v12
  let c0 : Index := 0#32
  ![v13.toNat, 0]
def k0_cond3 (i : grid0.Coords) : BitVec 1 :=
  let arg0 : BitVec 32 := BitVec.ofNat 32 (i 0).val
  let c9_i32 : BitVec 32 := 9#32
  let v8 : BitVec 1 := Scalar.cmpi .eq arg0 c9_i32
  let v9 : BitVec 32 := Scalar.extui v8
  let c0_i32_2 : BitVec 32 := 0#32
  let v10 : BitVec 1 := Scalar.cmpi .ne v9 c0_i32_2
  v10

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![9], ![false]⟩

def k1_cond4 (i : grid1.Coords) : BitVec 1 :=
  let arg0 : BitVec 32 := BitVec.ofNat 32 (i 0).val
  let c8_i32_0 : BitVec 32 := 8#32
  let v3 : BitVec 1 := Scalar.cmpi .eq arg0 c8_i32_0
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc1_transform_3 (i : grid1.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc1_transform_4 (i : grid1.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc1_transform_5 (i : grid1.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x768x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2048x768 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== KernelIdeal.lean ====
variable {F : FTy → Type} [FloatOps F] [Named F]
def κ : String → Option EReal := fun
  | "mask" => some ⊥
  | _ => none
-- ==== ReferenceIdeal.lean ====
abbrev S1x2048x768 : Shape := ⟨3, ![1, 2048, 768]⟩
abbrev S12x768x64 : Shape := ⟨3, ![12, 768, 64]⟩
abbrev S12x64x768 : Shape := ⟨3, ![12, 64, 768]⟩
abbrev S768 : Shape := ⟨1, ![768]⟩
abbrev S768x8 : Shape := ⟨2, ![768, 8]⟩
abbrev S8x768x512 : Shape := ⟨3, ![8, 768, 512]⟩
abbrev S8x512 : Shape := ⟨2, ![8, 512]⟩
abbrev S8x512x768 : Shape := ⟨3, ![8, 512, 768]⟩
abbrev S8x768 : Shape := ⟨2, ![8, 768]⟩
abbrev S12x64x1x2048 : Shape := ⟨4, ![12, 64, 1, 2048]⟩
abbrev S1x12x2048x64 : Shape := ⟨4, ![1, 12, 2048, 64]⟩
abbrev S1x12x2048x2048 : Shape := ⟨4, ![1, 12, 2048, 2048]⟩
abbrev S_ : Shape := ⟨0, ![]⟩
abbrev S1x12x2048 : Shape := ⟨3, ![1, 12, 2048]⟩
abbrev S1x12x2048x1 : Shape := ⟨4, ![1, 12, 2048, 1]⟩
abbrev S2048x768 : Shape := ⟨2, ![2048, 768]⟩
abbrev S1x768 : Shape := ⟨2, ![1, 768]⟩
abbrev S2048x8 : Shape := ⟨2, ![2048, 8]⟩
abbrev S2048x2 : Shape := ⟨2, ![2048, 2]⟩
abbrev S2048 : Shape := ⟨1, ![2048]⟩
abbrev S2048x1 : Shape := ⟨2, ![2048, 1]⟩
abbrev S2048x2x1 : Shape := ⟨3, ![2048, 2, 1]⟩
abbrev S2048x2x2 : Shape := ⟨3, ![2048, 2, 2]⟩
abbrev S8x512x2048 : Shape := ⟨3, ![8, 512, 2048]⟩
abbrev S8x2048x512 : Shape := ⟨3, ![8, 2048, 512]⟩
abbrev S8x1x512 : Shape := ⟨3, ![8, 1, 512]⟩
abbrev S8x2048x768 : Shape := ⟨3, ![8, 2048, 768]⟩
abbrev S8x1x768 : Shape := ⟨3, ![8, 1, 768]⟩

abbrev nBuf : Space → Nat
  | .hbm => 195
  | .vmem => 0
  | .smem => 0
  | _ => 0

abbrev hbmTy0_0 (i : Nat) : BufTy := match i % 128 with
  | 0 => ⟨S1x2048x768, .f32⟩
  | 1 => ⟨S12x768x64, .f32⟩
  | 2 => ⟨S12x768x64, .f32⟩
  | 3 => ⟨S12x768x64, .f32⟩
  | 4 => ⟨S12x64x768, .f32⟩
  | 5 => ⟨S768, .f32⟩
  | 6 => ⟨S768, .f32⟩
  | 7 => ⟨S768x8, .f32⟩
  | 8 => ⟨S8x768x512, .f32⟩
  | 9 => ⟨S8x512, .f32⟩
  | 10 => ⟨S8x512x768, .f32⟩
  | 11 => ⟨S8x768, .f32⟩
  | 12 => ⟨S768, .f32⟩
  | 13 => ⟨S768, .f32⟩
  | 14 => ⟨S12x64x1x2048, .f32⟩
  | 15 => ⟨S1x12x2048x64, .f32⟩
  | 16 => ⟨S12x64x1x2048, .f32⟩
  | 17 => ⟨S1x12x2048x64, .f32⟩
  | 18 => ⟨S12x64x1x2048, .f32⟩
  | 19 => ⟨S1x12x2048x64, .f32⟩
  | 20 => ⟨S1x12x2048x2048, .f32⟩
  | 21 => ⟨S_, .f32⟩
  | 22 => ⟨S1x12x2048x2048, .f32⟩
  | 23 => ⟨S1x12x2048x2048, .f32⟩
  | 24 => ⟨S_, .f32⟩
  | 25 => ⟨S1x12x2048, .f32⟩
  | 26 => ⟨S_, .f32⟩
  | 27 => ⟨S1x12x2048, .f32⟩
  | 28 => ⟨S1x12x2048, .f32⟩
  | 29 => ⟨S1x12x2048x1, .f32⟩
  | 30 => ⟨S1x12x2048x2048, .f32⟩
  | 31 => ⟨S1x12x2048x2048, .f32⟩
  | 32 => ⟨S1x12x2048x2048, .f32⟩
  | 33 => ⟨S_, .f32⟩
  | 34 => ⟨S1x12x2048, .f32⟩
  | 35 => ⟨S1x12x2048x1, .f32⟩
  | 36 => ⟨S1x12x2048x2048, .f32⟩
  | 37 => ⟨S1x12x2048x2048, .f32⟩
  | 38 => ⟨S1x12x2048x64, .f32⟩
  | 39 => ⟨S1x2048x768, .f32⟩
  | 40 => ⟨S1x2048x768, .f32⟩
  | 41 => ⟨S2048x768, .f32⟩
  | 42 => ⟨S_, .f32⟩
  | 43 => ⟨S768, .f32⟩
  | 44 => ⟨S_, .f32⟩
  | 45 => ⟨S768, .f32⟩
  | 46 => ⟨S768, .f32⟩
  | 47 => ⟨S_, .i32⟩
  | 48 => ⟨S_, .f32⟩
  | 49 => ⟨S768, .f32⟩
  | 50 => ⟨S1x768, .f32⟩
  | 51 => ⟨S_, .f32⟩
  | 52 => ⟨S1x768, .f32⟩
  | 53 => ⟨S1x768, .f32⟩
  | 54 => ⟨S2048x768, .f32⟩
  | 55 => ⟨S2048x768, .f32⟩
  | 56 => ⟨S2048x768, .f32⟩
  | 57 => ⟨S_, .f32⟩
  | 58 => ⟨S_, .f32⟩
  | 59 => ⟨S_, .f32⟩
  | 60 => ⟨S_, .f32⟩
  | 61 => ⟨S768, .f32⟩
  | 62 => ⟨S768, .f32⟩
  | 63 => ⟨S768, .f32⟩
  | 64 => ⟨S_, .f32⟩
  | 65 => ⟨S_, .i1⟩
  | 66 => ⟨S_, .f32⟩
  | 67 => ⟨S_, .f32⟩
  | 68 => ⟨S768, .f32⟩
  | 69 => ⟨S768, .f32⟩
  | 70 => ⟨S1x768, .f32⟩
  | 71 => ⟨S2048x768, .f32⟩
  | 72 => ⟨S2048x768, .f32⟩
  | 73 => ⟨S_, .f32⟩
  | 74 => ⟨S768, .f32⟩
  | 75 => ⟨S768, .f32⟩
  | 76 => ⟨S768, .f32⟩
  | 77 => ⟨S1x768, .f32⟩
  | 78 => ⟨S2048x768, .f32⟩
  | 79 => ⟨S2048x768, .f32⟩
  | 80 => ⟨S1x768, .f32⟩
  | 81 => ⟨S2048x768, .f32⟩
  | 82 => ⟨S2048x768, .f32⟩
  | 83 => ⟨S1x768, .f32⟩
  | 84 => ⟨S2048x768, .f32⟩
  | 85 => ⟨S2048x768, .f32⟩
  | 86 => ⟨S1x2048x768, .f32⟩
  | 87 => ⟨S2048x768, .f32⟩
  | 88 => ⟨S2048x8, .f32⟩
  | 89 => ⟨S2048x2, .f32⟩
  | 90 => ⟨S2048x2, .i32⟩
  | 91 => ⟨S_, .f32⟩
  | 92 => ⟨S2048, .f32⟩
  | 93 => ⟨S_, .f32⟩
  | 94 => ⟨S2048, .f32⟩
  | 95 => ⟨S2048, .f32⟩
  | 96 => ⟨S2048x1, .f32⟩
  | 97 => ⟨S2048x2, .f32⟩
  | 98 => ⟨S2048x2, .f32⟩
  | 99 => ⟨S2048x2, .f32⟩
  | 100 => ⟨S_, .f32⟩
  | 101 => ⟨S2048, .f32⟩
  | 102 => ⟨S2048x1, .f32⟩
  | 103 => ⟨S2048x2, .f32⟩
  | 104 => ⟨S2048x2, .f32⟩
  | 105 => ⟨S_, .f32⟩
  | 106 => ⟨S2048x8, .f32⟩
  | 107 => ⟨S2048, .i32⟩
  | 108 => ⟨S2048x1, .i32⟩
  | 109 => ⟨S_, .i32⟩
  | 110 => ⟨S2048x1, .i32⟩
  | 111 => ⟨S2048x1, .i1⟩
  | 112 => ⟨S_, .i32⟩
  | 113 => ⟨S2048x1, .i32⟩
  | 114 => ⟨S2048x1, .i32⟩
  | 115 => ⟨S2048x1, .i32⟩
  | 116 => ⟨S_, .i32⟩
  | 117 => ⟨S2048x2, .i32⟩
  | 118 => ⟨S2048x2, .i1⟩
  | 119 => ⟨S_, .i32⟩
  | 120 => ⟨S2048x2, .i32⟩
  | 121 => ⟨S2048x2, .i32⟩
  | 122 => ⟨S2048x2, .i32⟩
  | 123 => ⟨S2048x2, .i32⟩
  | 124 => ⟨S2048x2x1, .i32⟩
  | 125 => ⟨S2048x2x1, .i32⟩
  | 126 => ⟨S2048x2x2, .i32⟩
  | 127 => ⟨S2048x8, .f32⟩
  | _ => ⟨S1x2048x768, .f32⟩

abbrev hbmTy0_1 (i : Nat) : BufTy := match i % 128 with
  | 0 => ⟨S8x512x2048, .f32⟩
  | 1 => ⟨S8x2048x512, .f32⟩
  | 2 => ⟨S8x1x512, .f32⟩
  | 3 => ⟨S8x2048x512, .f32⟩
  | 4 => ⟨S8x2048x512, .f32⟩
  | 5 => ⟨S_, .f32⟩
  | 6 => ⟨S8x2048x512, .f32⟩
  | 7 => ⟨S8x2048x512, .f32⟩
  | 8 => ⟨S8x2048x512, .f32⟩
  | 9 => ⟨S_, .f32⟩
  | 10 => ⟨S8x2048x512, .f32⟩
  | 11 => ⟨S8x2048x512, .f32⟩
  | 12 => ⟨S8x2048x512, .f32⟩
  | 13 => ⟨S8x2048x512, .f32⟩
  | 14 => ⟨S8x2048x768, .f32⟩
  | 15 => ⟨S8x1x768, .f32⟩
  | 16 => ⟨S8x2048x768, .f32⟩
  | 17 => ⟨S8x2048x768, .f32⟩
  | 18 => ⟨S2048x768, .f32⟩
  | 19 => ⟨S1x2048x768, .f32⟩
  | 20 => ⟨S1x2048x768, .f32⟩
  | 21 => ⟨S2048x768, .f32⟩
  | 22 => ⟨S_, .f32⟩
  | 23 => ⟨S768, .f32⟩
  | 24 => ⟨S_, .f32⟩
  | 25 => ⟨S768, .f32⟩
  | 26 => ⟨S768, .f32⟩
  | 27 => ⟨S_, .i32⟩
  | 28 => ⟨S_, .f32⟩
  | 29 => ⟨S768, .f32⟩
  | 30 => ⟨S1x768, .f32⟩
  | 31 => ⟨S_, .f32⟩
  | 32 => ⟨S1x768, .f32⟩
  | 33 => ⟨S1x768, .f32⟩
  | 34 => ⟨S2048x768, .f32⟩
  | 35 => ⟨S2048x768, .f32⟩
  | 36 => ⟨S2048x768, .f32⟩
  | 37 => ⟨S_, .f32⟩
  | 38 => ⟨S_, .f32⟩
  | 39 => ⟨S_, .f32⟩
  | 40 => ⟨S_, .f32⟩
  | 41 => ⟨S768, .f32⟩
  | 42 => ⟨S768, .f32⟩
  | 43 => ⟨S768, .f32⟩
  | 44 => ⟨S_, .f32⟩
  | 45 => ⟨S_, .i1⟩
  | 46 => ⟨S_, .f32⟩
  | 47 => ⟨S_, .f32⟩
  | 48 => ⟨S768, .f32⟩
  | 49 => ⟨S768, .f32⟩
  | 50 => ⟨S1x768, .f32⟩
  | 51 => ⟨S2048x768, .f32⟩
  | 52 => ⟨S2048x768, .f32⟩
  | 53 => ⟨S_, .f32⟩
  | 54 => ⟨S768, .f32⟩
  | 55 => ⟨S768, .f32⟩
  | 56 => ⟨S768, .f32⟩
  | 57 => ⟨S1x768, .f32⟩
  | 58 => ⟨S2048x768, .f32⟩
  | 59 => ⟨S2048x768, .f32⟩
  | 60 => ⟨S1x768, .f32⟩
  | 61 => ⟨S2048x768, .f32⟩
  | 62 => ⟨S2048x768, .f32⟩
  | 63 => ⟨S1x768, .f32⟩
  | 64 => ⟨S2048x768, .f32⟩
  | 65 => ⟨S2048x768, .f32⟩
  | 66 => ⟨S1x2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_c : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_cst_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_cst_1 : Ref sig .tc := ⟨.hbm, 58, rfl⟩
abbrev main_call0_v8 : Ref sig .tc := ⟨.hbm, 59, rfl⟩
abbrev main_call0_cst_2 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_cst_3 : Ref sig .tc := ⟨.hbm, 64, rfl⟩
abbrev main_call0_v12 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_cst_5 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_values : Ref sig .tc := ⟨.hbm, 89, rfl⟩
abbrev main_indices : Ref sig .tc := ⟨.hbm, 90, rfl⟩
abbrev main_cst_6 : Ref sig .tc := ⟨.hbm, 91, rfl⟩
abbrev main_v46 : Ref sig .tc := ⟨.hbm, 92, rfl⟩
abbrev main_cst_7 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_cst_8 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_cst_9 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_c_10 : Ref sig .tc := ⟨.hbm, 109, rfl⟩
abbrev main_v60 : Ref sig .tc := ⟨.hbm, 110, rfl⟩
abbrev main_v61 : Ref sig .tc := ⟨.hbm, 111, rfl⟩
abbrev main_c_11 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_c_12 : Ref sig .tc := ⟨.hbm, 116, rfl⟩
abbrev main_v65 : Ref sig .tc := ⟨.hbm, 117, rfl⟩
abbrev main_v66 : Ref sig .tc := ⟨.hbm, 118, rfl⟩
abbrev main_c_13 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_14 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_15 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_16 : Ref sig .tc := ⟨.hbm, 150, rfl⟩
abbrev main_v95 : Ref sig .tc := ⟨.hbm, 151, rfl⟩
abbrev main_cst_17 : Ref sig .tc := ⟨.hbm, 152, rfl⟩
abbrev main_v96 : Ref sig .tc := ⟨.hbm, 153, rfl⟩
abbrev main_v97 : Ref sig .tc := ⟨.hbm, 154, rfl⟩
abbrev main_c_18 : Ref sig .tc := ⟨.hbm, 155, rfl⟩
abbrev main_call1_cst : Ref sig .tc := ⟨.hbm, 156, rfl⟩
abbrev main_call1_v0 : Ref sig .tc := ⟨.hbm, 157, rfl⟩
abbrev main_call1_v1 : Ref sig .tc := ⟨.hbm, 158, rfl⟩
abbrev main_call1_cst_0 : Ref sig .tc := ⟨.hbm, 159, rfl⟩
abbrev main_call1_v2 : Ref sig .tc := ⟨.hbm, 160, rfl⟩
abbrev main_call1_v3 : Ref sig .tc := ⟨.hbm, 161, rfl⟩
abbrev main_call1_v4 : Ref sig .tc := ⟨.hbm, 162, rfl⟩
abbrev main_call1_v5 : Ref sig .tc := ⟨.hbm, 163, rfl⟩
abbrev main_call1_v6 : Ref sig .tc := ⟨.hbm, 164, rfl⟩
abbrev main_call1_v7 : Ref sig .tc := ⟨.hbm, 165, rfl⟩
abbrev main_call1_cst_1 : Ref sig .tc := ⟨.hbm, 166, rfl⟩
abbrev main_call1_v8 : Ref sig .tc := ⟨.hbm, 167, rfl⟩
abbrev main_call1_cst_2 : Ref sig .tc := ⟨.hbm, 168, rfl⟩
abbrev main_call1_v9 : Ref sig .tc := ⟨.hbm, 169, rfl⟩
abbrev main_call1_v10 : Ref sig .tc := ⟨.hbm, 170, rfl⟩
abbrev main_call1_v11 : Ref sig .tc := ⟨.hbm, 171, rfl⟩
abbrev main_call1_cst_3 : Ref sig .tc := ⟨.hbm, 172, rfl⟩
abbrev main_call1_v12 : Ref sig .tc := ⟨.hbm, 173, rfl⟩
abbrev main_call1_cst_4 : Ref sig .tc := ⟨.hbm, 174, rfl⟩
abbrev main_call1_call0_v0 : Ref sig .tc := ⟨.hbm, 175, rfl⟩
abbrev main_call1_call0_v1 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_cst_19 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩

abbrev nD : Nat := 1
abbrev τ : Topo := Topo.v7x

variable {F : FTy → Type} [FloatOps F]
-- ==== Proof.BitsBlocks.lean ====
/- What the attention kernel's steps compute, as functions of the contents they read. -/
module

public import proofs.«01_k».proof.Proof.BitsSetup

@[expose] public section

noncomputable section

namespace Cert.Proof.K

open Cert.Kernel Cert.Kernel.Gen
open Idealize.ShloMosaic Idealize.ShloMosaic.TcCoe

variable {F : FTy → Type} [FloatOps F]

/-- 64 columns of the K/V projection, from column `o`. -/
abbrev kvCol (kv : Vec F S2048x1536 .f32) (o : ℕ) (h : ∀ a, (![0, o] : Fin 2 → ℕ) a + S2048x64.size a ≤ S2048x1536.size a) : Vec F S2048x64 .f32 :=
  View.ld kv (Rect.unit (s := S2048x1536) ![0, o] S2048x64.size h)

/-- One block of attention outputs (256 rows, all heads) from its rows of `x`, the query weights and the K/V projection. -/
def attnBlk (xb : Vec F S256x768 .f32) (wq : Vec F S768x768 .f32) (kv : Vec F S2048x1536 .f32) : FVec F S256x768 .f32 :=
  k0_pay2
    (k0_pay5 xb wq (kvCol kv 0 inb_S2048x1536_S2048x64_0_0) (kvCol kv 768 inb_S2048x1536_S2048x64_0_768))
    (k0_pay9 (k0_pay7 xb wq (kvCol kv 64 inb_S2048x1536_S2048x64_0_64)) (k0_pay8 xb wq (kvCol kv 64 inb_S2048x1536_S2048x64_0_64) (kvCol kv 832 inb_S2048x1536_S2048x64_0_832)))
    (k0_pay10 (k0_pay4 xb wq) (kvCol kv 128 inb_S2048x1536_S2048x64_0_128) (kvCol kv 896 inb_S2048x1536_S2048x64_0_896))
    (k0_pay11 (k0_pay4 xb wq) (kvCol kv 192 inb_S2048x1536_S2048x64_0_192) (kvCol kv 960 inb_S2048x1536_S2048x64_0_960))
    (k0_pay13 (k0_pay12 (k0_pay4 xb wq)) (kvCol kv 256 inb_S2048x1536_S2048x64_0_256) (kvCol kv 1024 inb_S2048x1536_S2048x64_0_1024) (constant S256x2048 .f32 0x00000000#32))
    (k0_pay14 (k0_pay4 xb wq) (kvCol kv 320 inb_S2048x1536_S2048x64_0_320) (kvCol kv 1088 inb_S2048x1536_S2048x64_0_1088))
    (k0_pay16 (kvCol kv 1152 inb_S2048x1536_S2048x64_0_1152) (k0_pay15 (k0_pay4 xb wq) (kvCol kv 384 inb_S2048x1536_S2048x64_0_384)))
    (k0_pay17 (k0_pay4 xb wq) (kvCol kv 448 inb_S2048x1536_S2048x64_0_448) (kvCol kv 1216 inb_S2048x1536_S2048x64_0_1216))
    (k0_pay18 (k0_pay4 xb wq) (kvCol kv 512 inb_S2048x1536_S2048x64_0_512) (kvCol kv 1280 inb_S2048x1536_S2048x64_0_1280))
    (k0_pay20 (k0_pay19 (k0_pay4 xb wq)) (kvCol kv 576 inb_S2048x1536_S2048x64_0_576) (kvCol kv 1344 inb_S2048x1536_S2048x64_0_1344))
    (k0_pay21 (k0_pay4 xb wq) (kvCol kv 640 inb_S2048x1536_S2048x64_0_640) (kvCol kv 1408 inb_S2048x1536_S2048x64_0_1408))
    (kvCol kv 1472 inb_S2048x1536_S2048x64_0_1472)
    (k0_pay22 (k0_pay4 xb wq) (kvCol kv 704 inb_S2048x1536_S2048x64_0_704))

/-- The rows a step reads and writes. -/
abbrev rowRect (i : grid0.Coords) (h : k0_cond2 i = 1#1) : Rect S2048x768 := Rect.unit (s := S2048x768) (k0_off1 i) S256x768.size (k0_off1_inb i h)

/-- The activations after the attention block: residual, projection and batch normalisation. -/
abbrev hOut (x : Vec F S2048x768 .f32) (att : Vec F S2048x768 .f32) (wo : Vec F S768x768 .f32) (g b : Vec F S1x768 .f32) : FVec F S2048x768 .f32 :=
  k0_pay23 x att wo g b

/-- The gate weights over 128 lanes. -/
abbrev gOut (x : Vec F S2048x768 .f32) (att : Vec F S2048x768 .f32) (wo : Vec F S768x768 .f32) (g b : Vec F S1x768 .f32) (wg : Vec F S768x128 .f32) : FVec F S2048x128 .f32 :=
  k0_pay3 (k0_pay24 x att wo g b wg) (iota .tc S2048x128 32 [1] iota_S2048x128_d1_w32) k0_pay25

end Cert.Proof.K

end
-- ==== Proof.BitsBodyAttn.lean ====
/- The attention kernel's steps 1 to 8: one block of 256 rows of attention outputs. -/
module

public import proofs.«01_k».proof.Proof.BitsBodyLoad
public import proofs.«01_k».proof.Proof.BitsBlocks

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

set_option maxHeartbeats 8000000 in
set_option maxRecDepth 65536 in
/-- At steps 1 to 8 the body writes one block of rows of the attention output. -/
theorem attnRun (c : Dev nD) (i : grid0.Coords)
    (hA : ¬ Scalar.cmpi .ne (Scalar.extui (Scalar.cmpi .eq (BitVec.ofNat 32 (i 0).val) 0#32)) 0#32 = 1#1) (hB : k0_cond2 i = 1#1) (hC : ¬ k0_cond3 i = 1#1)
    (gX : Vec F S2048x768 .f32) (gWq : Vec F S768x768 .f32) (gKv : Vec F S2048x1536 .f32)
    (M0 : Memref sig .tc .vmem S1x768 .f32) (h0 : M0.IsWhole) (M1 : Memref sig .tc .vmem S1x768 .f32) (h1 : M1.IsWhole)
    (M2 : Memref sig .tc .vmem S768x128 .f32) (h2 : M2.IsWhole) (M3 : Memref sig .tc .vmem S2048x768 .f32) (h3 : M3.IsWhole)
    (M4 : Memref sig .tc .vmem S2048x128 .f32) (h4 : M4.IsWhole) (X3 : Vec F S2048x768 .f32)
    (Q : PUnit → sProp 𝕄) :
    iprop(pt c sX gX ∗ pt c sWq gWq ∗ pt c sKv gKv ∗ owns (c : Thread nD τ) M3 fullShare X3
      ∗ (iprop(pt c sX gX ∗ pt c sWq gWq ∗ pt c sKv gKv
          ∗ ∃ f3 : Bf (F := F) c M3, ⌜M3.view.read (Elt F) f3 = X3⌝ ∗ owns (c : Thread nD τ) M3 fullShare (M3.view.read (Elt F) (M3.view.writes (Elt F) f3 [⟨rowRect i hB, attnBlk (View.ld gX (rowRect i hB)) gWq gKv⟩]))) -∗ Q ⟨⟩))
      ⊢ wp frame (wpE (defs₀ (F := F)) Variants.none c none) Set.univ (attnBody i M0 h0 M1 h1 M2 h2 M3 h3 M4 h4) Q := by
  simp only [owns_pt c h3]
  iintro ⟨S0, S1, S2, ⟨%f3, %hf3, S3⟩, Hk⟩
  sl_exec
  sl_step
  have e : attnBlk (View.ld gX (rowRect i hB)) gWq gKv = k0_pay2 (attnRun.sl.r_1 i hB gX gWq gKv) (attnRun.sl.r_4 i hB gX gWq gKv) (attnRun.sl.r_5 i hB gX gWq gKv)
            (attnRun.sl.r_6 i hB gX gWq gKv) (attnRun.sl.r_10 i hB gX gWq gKv) (attnRun.sl.r_11 i hB gX gWq gKv)
            (attnRun.sl.r_14 i hB gX gWq gKv) (attnRun.sl.r_15 i hB gX gWq gKv) (attnRun.sl.r_16 i hB gX gWq gKv)
            (attnRun.sl.r_18 i hB gX gWq gKv) (attnRun.sl.r_19 i hB gX gWq gKv) (attnRun.sl.r_20 gKv)
            (attnRun.sl.r_21 i hB gX gWq gKv) := by
    have e0 : View.ld gWq (Rect.unit (s := S768x768) ![0, 0] S768x768.size inb_S768x768_S768x768_0_0) = gWq := View.ld_unit_zero zero2 _ gWq
    conv_lhs => rw [← e0]
    rfl
  rw [e]
  iapply Hk
  isplitl [S0]; · iexact S0
  isplitl [S1]; · iexact S1
  isplitl [S2]; · iexact S2
  iexists f3
  isplitr; · ipureintro; exact hf3
  iexists _
  isplitr; swap; · iexact S3
  ipureintro; rfl

end Cert.Proof.K

end
-- ==== Proof.BitsBodyGate.lean ====
/- The attention kernel's last step: the output projection, the batch normalisation and the gates. -/
module

public import proofs.«01_k».proof.Proof.BitsBodyAttn

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

set_option maxHeartbeats 8000000 in
set_option maxRecDepth 65536 in
/-- At the last step the body writes the normalised activations and the gates. -/
theorem gateRun (c : Dev nD) (i : grid0.Coords)
    (hA : ¬ Scalar.cmpi .ne (Scalar.extui (Scalar.cmpi .eq (BitVec.ofNat 32 (i 0).val) 0#32)) 0#32 = 1#1) (hB : ¬ k0_cond2 i = 1#1) (hC : k0_cond3 i = 1#1)
    (gX : Vec F S2048x768 .f32) (gWo : Vec F S768x768 .f32)
    (M0 : Memref sig .tc .vmem S1x768 .f32) (h0 : M0.IsWhole) (M1 : Memref sig .tc .vmem S1x768 .f32) (h1 : M1.IsWhole)
    (M2 : Memref sig .tc .vmem S768x128 .f32) (h2 : M2.IsWhole) (M3 : Memref sig .tc .vmem S2048x768 .f32) (h3 : M3.IsWhole)
    (M4 : Memref sig .tc .vmem S2048x128 .f32) (h4 : M4.IsWhole)
    (X0 X1 : Vec F S1x768 .f32) (X2 : Vec F S768x128 .f32) (X3 : Vec F S2048x768 .f32) (X4 : Vec F S2048x128 .f32)
    (Q : PUnit → sProp 𝕄) :
    iprop(pt c sX gX ∗ pt c sWo gWo ∗ owns (c : Thread nD τ) M0 fullShare X0 ∗ owns (c : Thread nD τ) M1 fullShare X1
      ∗ owns (c : Thread nD τ) M2 fullShare X2 ∗ owns (c : Thread nD τ) M3 fullShare X3 ∗ owns (c : Thread nD τ) M4 fullShare X4
      ∗ (iprop(pt c sX gX ∗ pt c sWo gWo ∗ owns (c : Thread nD τ) M0 fullShare X0 ∗ owns (c : Thread nD τ) M1 fullShare X1
          ∗ owns (c : Thread nD τ) M2 fullShare X2 ∗ owns (c : Thread nD τ) M3 fullShare (hOut gX X3 gWo X0 X1)
          ∗ owns (c : Thread nD τ) M4 fullShare (gOut gX X3 gWo X0 X1 X2)) -∗ Q ⟨⟩))
      ⊢ wp frame (wpE (defs₀ (F := F)) Variants.none c none) Set.univ (attnBody i M0 h0 M1 h1 M2 h2 M3 h3 M4 h4) Q := by
  simp only [owns_pt c h0, owns_pt c h1, owns_pt c h2, owns_pt c h3, owns_pt c h4]
  iintro ⟨S0, S1, ⟨%f0, %e0, W0⟩, ⟨%f1, %e1, W1⟩, ⟨%f2, %e2, W2⟩, ⟨%f3, %e3, W3⟩, ⟨%f4, %e4, W4⟩, Hk⟩
  subst e0 e1 e2 e3 e4
  sl_exec
  sl_step
  have eh : k0_pay23 (View.readAt (Elt F) sX.view (Rect.unit ![0, 0] S2048x768.size inb_S2048x768_S2048x768_0_0).toLoadRect gX) (View.readAt (Elt F) M3.view (Rect.unit ![0, 0] S2048x768.size inb_S2048x768_S2048x768_0_0).toLoadRect f3) (View.readAt (Elt F) sWo.view (Rect.unit ![0, 0] S768x768.size inb_S768x768_S768x768_0_0).toLoadRect gWo) (View.readAt (Elt F) M0.view (Rect.unit ![0, 0] S1x768.size inb_S1x768_S1x768_0_0).toLoadRect f0) (View.readAt (Elt F) M1.view (Rect.unit ![0, 0] S1x768.size inb_S1x768_S1x768_0_0).toLoadRect f1)
      = hOut gX (M3.view.read (Elt F) f3) gWo (M0.view.read (Elt F) f0) (M1.view.read (Elt F) f1) := by
    have r0 := readAt_full (Val := Elt F) M0.view f0 zero2 inb_S1x768_S1x768_0_0
    have r1 := readAt_full (Val := Elt F) M1.view f1 zero2 inb_S1x768_S1x768_0_0
    have r3 := readAt_full (Val := Elt F) M3.view f3 zero2 inb_S2048x768_S2048x768_0_0
    have rX : View.ld gX (Rect.unit (s := S2048x768) ![0, 0] S2048x768.size inb_S2048x768_S2048x768_0_0) = gX := View.ld_unit_zero zero2 _ gX
    have rW : View.ld gWo (Rect.unit (s := S768x768) ![0, 0] S768x768.size inb_S768x768_S768x768_0_0) = gWo := View.ld_unit_zero zero2 _ gWo
    rw [← r0, ← r1, ← r3]
    conv_rhs => rw [← rX, ← rW]
    rfl
  have eg : k0_pay3 (gateRun.sl.r c gX gWo M0 M1 M2 M3 f0 f1 f2 f3) gateRun.sl.v45 k0_pay25
      = gOut gX (M3.view.read (Elt F) f3) gWo (M0.view.read (Elt F) f0) (M1.view.read (Elt F) f1) (M2.view.read (Elt F) f2) := by
    have r0 := readAt_full (Val := Elt F) M0.view f0 zero2 inb_S1x768_S1x768_0_0
    have r1 := readAt_full (Val := Elt F) M1.view f1 zero2 inb_S1x768_S1x768_0_0
    have r2 := readAt_full (Val := Elt F) M2.view f2 zero2 inb_S768x128_S768x128_0_0
    have r3 := readAt_full (Val := Elt F) M3.view f3 zero2 inb_S2048x768_S2048x768_0_0
    have rX : View.ld gX (Rect.unit (s := S2048x768) ![0, 0] S2048x768.size inb_S2048x768_S2048x768_0_0) = gX := View.ld_unit_zero zero2 _ gX
    have rW : View.ld gWo (Rect.unit (s := S768x768) ![0, 0] S768x768.size inb_S768x768_S768x768_0_0) = gWo := View.ld_unit_zero zero2 _ gWo
    rw [← r0, ← r1, ← r2, ← r3]
    conv_rhs => rw [← rX, ← rW]
    rfl
  rw [eh, eg]
  iapply Hk
  isplitl [S0]; · iexact S0
  isplitl [S1]; · iexact S1
  isplitl [W0]; · iexists f0; isplitr; · ipureintro; rfl
                  iexact W0
  isplitl [W1]; · iexists f1; isplitr; · ipureintro; rfl
                  iexact W1
  isplitl [W2]; · iexists f2; isplitr; · ipureintro; rfl
                  iexact W2
  isplitl [W3]
  · iexists _; isplitr; swap; · iexact W3
    ipureintro; exact read_store_full M3.view f3 zero2 _ _
  iexists _; isplitr; swap; · iexact W4
  ipureintro; exact read_store_full M4.view f4 zero2 _ _

end Cert.Proof.K

end
-- ==== Proof.Setup.lean ====
/- The resource algebra, the launch element and the abbreviations shared by the modules on the
   idealized kernel's run. -/
module

public import proofs.«01_k».proof.Proof.Gen.KernelIdeal.Skeleton
public import proofs.«01_k».proof.Proof.Gen.KernelIdeal.Points
public import proofs.«01_k».proof.Proof.Gen.KernelIdeal.Regions
public import Idealize.ShloMosaic.Lib.Tactic
public import Idealize.ShloMosaic.Lib.Pipeline.Kit
public import Idealize.ShloMosaic.Lib.Pipeline.Value

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase
open Idealize.ShloMosaic.Rounds

/-- The resource algebra: the pipeline library's rounds beside the counters the transfers take their tokens from. -/
abbrev UU (nD : Nat) (τ : Topo) : Type := UR sig nD τ × Counters

variable {F : FTy → Type} [FloatOps F] [Named F]

/-- The contents of memref `M`'s buffer on core `c`. -/
abbrev Bf (c : Dev nD) {sp : Space} {S : Shape} {e : EltTy} (M : Memref sig .tc sp S e) : Type := Buf (Elt F) (M.view.loc (c : Thread nD τ))

/-- Memref `M`'s whole buffer on core `c`, held at contents `f`. -/
abbrev pt (c : Dev nD) {sp : Space} {S : Shape} {e : EltTy} (M : Memref sig .tc sp S e) (f : Bf (F := F) c M) :
    sProp (MT nD τ sig Unit (Elt F) ℕ (UU nD τ) ℕ) :=
  M.view.loc (c : Thread nD τ) ↦{fullShare} f

/-- The first region's own semaphore: the one its four transfers use. -/
abbrev osem : Fin 1 → SemLoc sig := fun _ => .dma cc0_scratch4.sem

/-- A whole memref owned at contents `X` is its buffer held at some contents that read `X`. -/
theorem owns_pt (c : Dev nD) {sp : Space} {S : Shape} {e : EltTy} {M : Memref sig .tc sp S e} (hw : M.IsWhole) (X : S.Idx → Elt F e) :
    (owns (c : Thread nD τ) M fullShare X : sProp (MT nD τ sig Unit (Elt F) ℕ (UU nD τ) ℕ))
      = iprop(∃ f : Bf (F := F) c M, ⌜M.view.read (Elt F) f = X⌝ ∗ pt c M f) := by
  obtain ⟨b, hsp, hsh, he, h⟩ := hw
  subst hsp hsh he
  cases h
  exact owns_whole_eq (Val := Elt F) (c : Thread nD τ) b fullShare X

section Views

variable {sp : Space} {s : Shape} {e : EltTy} {Val : EltTy → Type}

/-- A load of the whole view reads what the view reads. -/
theorem readAt_full (v : View sig .tc sp s e) (f : v.ty.Contents Val) {off : Fin s.rank → ℕ} (h : off = fun _ => 0)
    (inb : ∀ a, off a + s.size a ≤ s.size a) :
    v.readAt Val (Rect.unit off s.size inb).toLoadRect f = v.read Val f := by
  subst h
  funext y
  show v.read Val f ((Rect.whole s).emb y) = v.read Val f y
  rw [Rect.emb_whole_apply]

/-- One store of the whole view, read back, is its payload. -/
theorem read_store_full (v : View sig .tc sp s e) (f : v.ty.Contents Val) {off : Fin s.rank → ℕ} (h : off = fun _ => 0)
    (inb : ∀ a, off a + s.size a ≤ s.size a) (w : s.Idx → Val e) :
    v.read Val (v.writes Val f [⟨Rect.unit off s.size inb, w⟩]) = w := by
  subst h
  funext y
  have h := View.read_writes_cons_emb v f (Rect.whole s) w [] y
  rwa [Rect.emb_whole_apply] at h

theorem zero2 : (![0, 0] : Fin 2 → ℕ) = fun _ => 0 := by
  funext a; fin_cases a <;> rfl

theorem zero3 : (![0, 0, 0] : Fin 3 → ℕ) = fun _ => 0 := by
  funext a; fin_cases a <;> rfl

end Views

end Cert.Proof.KI

end
-- ==== Proof.BodyLoad.lean ====
/- The attention kernel's first step: the four transfers from HBM and the K/V projection. -/
module

public import proofs.«01_k».proof.Proof.Setup

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

abbrev mX := (Memref.whole main_call0_v0 : Memref sig .tc .hbm S2048x768 .f32)
abbrev mWq := (Memref.whole main_call0_v2 : Memref sig .tc .hbm S768x768 .f32)
abbrev mWkv := (Memref.whole main_call0_v7 : Memref sig .tc .hbm S768x1536 .f32)
abbrev mWo := (Memref.whole main_call0_v8 : Memref sig .tc .hbm S768x768 .f32)
abbrev sX := (Memref.whole cc0_scratch0 : Memref sig .tc .vmem S2048x768 .f32)
abbrev sWq := (Memref.whole cc0_scratch1 : Memref sig .tc .vmem S768x768 .f32)
abbrev sKv := (Memref.whole cc0_scratch2 : Memref sig .tc .vmem S2048x1536 .f32)
abbrev sWo := (Memref.whole cc0_scratch3 : Memref sig .tc .vmem S768x768 .f32)
abbrev sWkv := (Memref.whole cc0_scoped0 : Memref sig .tc .vmem S768x1536 .f32)

/-- The first region's body at grid coordinates `i`, on staging memrefs `M0` … `M4`. -/
abbrev attnBody (i : grid0.Coords) (M0 : Memref sig .tc .vmem S1x768 .f32) (h0 : M0.IsWhole) (M1 : Memref sig .tc .vmem S1x768 .f32) (h1 : M1.IsWhole)
    (M2 : Memref sig .tc .vmem S768x128 .f32) (h2 : M2.IsWhole) (M3 : Memref sig .tc .vmem S2048x768 .f32) (h3 : M3.IsWhole)
    (M4 : Memref sig .tc .vmem S2048x128 .f32) (h4 : M4.IsWhole) : Prog (TpuEff nD τ sig (Elt F) Λ₀ .tc) PUnit :=
  cc0__attn_body i mX (Memref.isWhole_whole _) mWq (Memref.isWhole_whole _) mWkv (Memref.isWhole_whole _) mWo (Memref.isWhole_whole _)
    M0 h0 M1 h1 M2 h2 M3 h3 M4 h4 sX (Memref.isWhole_whole _) sWq (Memref.isWhole_whole _) sKv (Memref.isWhole_whole _) sWo (Memref.isWhole_whole _)
    cc0_scratch4 sWkv (Memref.isWhole_whole _)

set_option maxHeartbeats 4000000 in
/-- At the first step the body fills the four resident buffers from the operands in HBM and writes the K/V projection. -/
theorem loadRun (c : Dev nD) (i : grid0.Coords)
    (hA : Scalar.cmpi .ne (Scalar.extui (Scalar.cmpi .eq (BitVec.ofNat 32 (i 0).val) 0#32)) 0#32 = 1#1) (hB : ¬ k0_cond2 i = 1#1) (hC : ¬ k0_cond3 i = 1#1)
    (gX : Vec F S2048x768 .f32) (gWq : Vec F S768x768 .f32) (gWkv : Vec F S768x1536 .f32) (gWo : Vec F S768x768 .f32)
    (M0 : Memref sig .tc .vmem S1x768 .f32) (h0 : M0.IsWhole) (M1 : Memref sig .tc .vmem S1x768 .f32) (h1 : M1.IsWhole)
    (M2 : Memref sig .tc .vmem S768x128 .f32) (h2 : M2.IsWhole) (M3 : Memref sig .tc .vmem S2048x768 .f32) (h3 : M3.IsWhole)
    (M4 : Memref sig .tc .vmem S2048x128 .f32) (h4 : M4.IsWhole)
    (fX : Bf (F := F) c sX) (fWq : Bf (F := F) c sWq) (fKv : Bf (F := F) c sKv) (fWo : Bf (F := F) c sWo) (fWkv : Bf (F := F) c sWkv)
    (V : Waits sig Unit) (Q : PUnit → sProp 𝕄) :
    iprop(pt c mX gX ∗ pt c mWq gWq ∗ pt c mWkv gWkv ∗ pt c mWo gWo
      ∗ pt c sX fX ∗ pt c sWq fWq ∗ pt c sKv fKv ∗ pt c sWo fWo ∗ pt c sWkv fWkv
      ∗ semVal ((c : Thread nD τ), osem 0) 0 ∗ owes (c : Thread nD τ) 0 V
      ∗ (iprop(pt c mX gX ∗ pt c mWq gWq ∗ pt c mWkv gWkv ∗ pt c mWo gWo
          ∗ pt c sX gX ∗ pt c sWq gWq ∗ pt c sKv (k0_pay1 gX gWkv : Vec F S2048x1536 .f32) ∗ pt c sWo gWo ∗ (∃ f, pt c sWkv f)
          ∗ semVal ((c : Thread nD τ), osem 0) 0 ∗ ∃ V, owes (c : Thread nD τ) 0 V) -∗ Q ⟨⟩))
      ⊢ wp frame (wpE (defs₀ (F := F)) Variants.none c none) Set.univ (attnBody i M0 h0 M1 h1 M2 h2 M3 h3 M4 h4) Q := by
  iintro ⟨G0, G1, G2, G3, S0, S1, S2, S3, S4, Hd, HO, Hk⟩
  sl_exec
  sl_step
  rw [View.write_whole_univ, View.write_whole_univ, View.write_whole_univ, View.write_whole_univ]
  rw [show loadRun.sl.dma0 gX = gX from rfl, show loadRun.sl.dma0_1 gWq = gWq from rfl, show loadRun.sl.dma0_2 gWo = gWo from rfl]
  have eX : loadRun.sl.v11_r0 c gX fX = gX := by
    unfold loadRun.sl.v11_r0
    refine (readAt_full sX.view _ zero2 _).trans ?_
    rw [View.write_whole_univ]; rfl
  have eW : loadRun.sl.v12_r0 c gWkv fWkv = gWkv := by
    unfold loadRun.sl.v12_r0
    refine (readAt_full sWkv.view _ zero2 _).trans ?_
    rw [View.write_whole_univ]; rfl
  rw [eX, eW]
  iapply Hk
  isplitl [G0]; · iexact G0
  isplitl [G1]; · iexact G1
  isplitl [G2]; · iexact G2
  isplitl [G3]; · iexact G3
  isplitl [S0]; · iexact S0
  isplitl [S1]; · iexact S1
  isplitl [S2]
  · have eK : sKv.view.writes (Elt F) fKv [⟨Rect.unit ![0, 0] S2048x1536.size inb_S2048x1536_S2048x1536_0_0, k0_pay1 gX gWkv⟩] = k0_pay1 gX gWkv := by
      have e := read_store_full (Val := Elt F) sKv.view fKv zero2 inb_S2048x1536_S2048x1536_0_0 (k0_pay1 gX gWkv)
      rw [View.read_whole] at e
      exact e
    rw [eK]; iexact S2
  isplitl [S3]; · iexact S3
  isplitl [S4]; · iexists _; iexact S4
  isplitl [Hd]; · iexact Hd
  iexists _; iexact HO

end Cert.Proof.KI

end
-- ==== Proof.Blocks.lean ====
/- What the attention kernel's steps compute, as functions of the contents they read. -/
module

public import proofs.«01_k».proof.Proof.Setup

@[expose] public section

noncomputable section

namespace Cert.Proof.KI

open Cert.KernelIdeal Cert.KernelIdeal.Gen
open Idealize.ShloMosaic Idealize.ShloMosaic.TcCoe

variable {F : FTy → Type} [FloatOps F] [Named F]

/-- 64 columns of the K/V projection, from column `o`. -/
abbrev kvCol (kv : Vec F S2048x1536 .f32) (o : ℕ) (h : ∀ a, (![0, o] : Fin 2 → ℕ) a + S2048x64.size a ≤ S2048x1536.size a) : Vec F S2048x64 .f32 :=
  View.ld kv (Rect.unit (s := S2048x1536) ![0, o] S2048x64.size h)

/-- One block of attention outputs (256 rows, all heads) from its rows of `x`, the query weights and the K/V projection. -/
def attnBlk (xb : Vec F S256x768 .f32) (wq : Vec F S768x768 .f32) (kv : Vec F S2048x1536 .f32) : FVec F S256x768 .f32 :=
  k0_pay2
    (k0_pay5 xb wq (kvCol kv 0 inb_S2048x1536_S2048x64_0_0) (kvCol kv 768 inb_S2048x1536_S2048x64_0_768))
    (k0_pay9 (k0_pay7 xb wq (kvCol kv 64 inb_S2048x1536_S2048x64_0_64)) (k0_pay8 xb wq (kvCol kv 64 inb_S2048x1536_S2048x64_0_64) (kvCol kv 832 inb_S2048x1536_S2048x64_0_832)))
    (k0_pay10 (k0_pay4 xb wq) (kvCol kv 128 inb_S2048x1536_S2048x64_0_128) (kvCol kv 896 inb_S2048x1536_S2048x64_0_896))
    (k0_pay11 (k0_pay4 xb wq) (kvCol kv 192 inb_S2048x1536_S2048x64_0_192) (kvCol kv 960 inb_S2048x1536_S2048x64_0_960))
    (k0_pay13 (k0_pay12 (k0_pay4 xb wq)) (kvCol kv 256 inb_S2048x1536_S2048x64_0_256) (kvCol kv 1024 inb_S2048x1536_S2048x64_0_1024) (constant S256x2048 .f32 0x00000000#32))
    (k0_pay14 (k0_pay4 xb wq) (kvCol kv 320 inb_S2048x1536_S2048x64_0_320) (kvCol kv 1088 inb_S2048x1536_S2048x64_0_1088))
    (k0_pay16 (kvCol kv 1152 inb_S2048x1536_S2048x64_0_1152) (k0_pay15 (k0_pay4 xb wq) (kvCol kv 384 inb_S2048x1536_S2048x64_0_384)))
    (k0_pay17 (k0_pay4 xb wq) (kvCol kv 448 inb_S2048x1536_S2048x64_0_448) (kvCol kv 1216 inb_S2048x1536_S2048x64_0_1216))
    (k0_pay18 (k0_pay4 xb wq) (kvCol kv 512 inb_S2048x1536_S2048x64_0_512) (kvCol kv 1280 inb_S2048x1536_S2048x64_0_1280))
    (k0_pay20 (k0_pay19 (k0_pay4 xb wq)) (kvCol kv 576 inb_S2048x1536_S2048x64_0_576) (kvCol kv 1344 inb_S2048x1536_S2048x64_0_1344))
    (k0_pay21 (k0_pay4 xb wq) (kvCol kv 640 inb_S2048x1536_S2048x64_0_640) (kvCol kv 1408 inb_S2048x1536_S2048x64_0_1408))
    (kvCol kv 1472 inb_S2048x1536_S2048x64_0_1472)
    (k0_pay22 (k0_pay4 xb wq) (kvCol kv 704 inb_S2048x1536_S2048x64_0_704))

/-- The rows a step reads and writes. -/
abbrev rowRect (i : grid0.Coords) (h : k0_cond2 i = 1#1) : Rect S2048x768 := Rect.unit (s := S2048x768) (k0_off1 i) S256x768.size (k0_off1_inb i h)

/-- The activations after the attention block: residual, projection and batch normalisation. -/
abbrev hOut (x : Vec F S2048x768 .f32) (att : Vec F S2048x768 .f32) (wo : Vec F S768x768 .f32) (g b : Vec F S1x768 .f32) : FVec F S2048x768 .f32 :=
  k0_pay23 x att wo g b

/-- The gate weights over 128 lanes. -/
abbrev gOut (x : Vec F S2048x768 .f32) (att : Vec F S2048x768 .f32) (wo : Vec F S768x768 .f32) (g b : Vec F S1x768 .f32) (wg : Vec F S768x128 .f32) : FVec F S2048x128 .f32 :=
  k0_pay3 (k0_pay24 x att wo g b wg) (iota .tc S2048x128 32 [1] iota_S2048x128_d1_w32) k0_pay25

end Cert.Proof.KI

end
-- ==== Proof.BodyAttn.lean ====
/- The attention kernel's steps 1 to 8: one block of 256 rows of attention outputs. -/
module

public import proofs.«01_k».proof.Proof.BodyLoad
public import proofs.«01_k».proof.Proof.Blocks

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

set_option maxHeartbeats 8000000 in
set_option maxRecDepth 65536 in
/-- At steps 1 to 8 the body writes one block of rows of the attention output. -/
theorem attnRun (c : Dev nD) (i : grid0.Coords)
    (hA : ¬ Scalar.cmpi .ne (Scalar.extui (Scalar.cmpi .eq (BitVec.ofNat 32 (i 0).val) 0#32)) 0#32 = 1#1) (hB : k0_cond2 i = 1#1) (hC : ¬ k0_cond3 i = 1#1)
    (gX : Vec F S2048x768 .f32) (gWq : Vec F S768x768 .f32) (gKv : Vec F S2048x1536 .f32)
    (M0 : Memref sig .tc .vmem S1x768 .f32) (h0 : M0.IsWhole) (M1 : Memref sig .tc .vmem S1x768 .f32) (h1 : M1.IsWhole)
    (M2 : Memref sig .tc .vmem S768x128 .f32) (h2 : M2.IsWhole) (M3 : Memref sig .tc .vmem S2048x768 .f32) (h3 : M3.IsWhole)
    (M4 : Memref sig .tc .vmem S2048x128 .f32) (h4 : M4.IsWhole) (X3 : Vec F S2048x768 .f32)
    (Q : PUnit → sProp 𝕄) :
    iprop(pt c sX gX ∗ pt c sWq gWq ∗ pt c sKv gKv ∗ owns (c : Thread nD τ) M3 fullShare X3
      ∗ (iprop(pt c sX gX ∗ pt c sWq gWq ∗ pt c sKv gKv
          ∗ ∃ f3 : Bf (F := F) c M3, ⌜M3.view.read (Elt F) f3 = X3⌝ ∗ owns (c : Thread nD τ) M3 fullShare (M3.view.read (Elt F) (M3.view.writes (Elt F) f3 [⟨rowRect i hB, attnBlk (View.ld gX (rowRect i hB)) gWq gKv⟩]))) -∗ Q ⟨⟩))
      ⊢ wp frame (wpE (defs₀ (F := F)) Variants.none c none) Set.univ (attnBody i M0 h0 M1 h1 M2 h2 M3 h3 M4 h4) Q := by
  simp only [owns_pt c h3]
  iintro ⟨S0, S1, S2, ⟨%f3, %hf3, S3⟩, Hk⟩
  sl_exec
  sl_step
  have e : attnBlk (View.ld gX (rowRect i hB)) gWq gKv = k0_pay2 (attnRun.sl.v32 i hB gX gWq gKv) (attnRun.sl.v48 i hB gX gWq gKv) (attnRun.sl.v64 i hB gX gWq gKv)
            (attnRun.sl.v80 i hB gX gWq gKv) (attnRun.sl.v96 i hB gX gWq gKv) (attnRun.sl.v112 i hB gX gWq gKv)
            (attnRun.sl.v128 i hB gX gWq gKv) (attnRun.sl.v144 i hB gX gWq gKv) (attnRun.sl.v160 i hB gX gWq gKv)
            (attnRun.sl.v176 i hB gX gWq gKv) (attnRun.sl.v192 i hB gX gWq gKv) (attnRun.sl.r_3 gKv)
            (attnRun.sl.v198 i hB gX gWq gKv) := by
    have e0 : View.ld gWq (Rect.unit (s := S768x768) ![0, 0] S768x768.size inb_S768x768_S768x768_0_0) = gWq := View.ld_unit_zero zero2 _ gWq
    conv_lhs => rw [← e0]
    rfl
  rw [e]
  iapply Hk
  isplitl [S0]; · iexact S0
  isplitl [S1]; · iexact S1
  isplitl [S2]; · iexact S2
  iexists f3
  isplitr; · ipureintro; exact hf3
  iexists _
  isplitr; swap; · iexact S3
  ipureintro; rfl

end Cert.Proof.KI

end
-- ==== Proof.BodyGate.lean ====
/- The attention kernel's last step: the output projection, the batch normalisation and the gates. -/
module

public import proofs.«01_k».proof.Proof.BodyAttn

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

set_option maxHeartbeats 8000000 in
set_option maxRecDepth 65536 in
/-- At the last step the body writes the normalised activations and the gates. -/
theorem gateRun (c : Dev nD) (i : grid0.Coords)
    (hA : ¬ Scalar.cmpi .ne (Scalar.extui (Scalar.cmpi .eq (BitVec.ofNat 32 (i 0).val) 0#32)) 0#32 = 1#1) (hB : ¬ k0_cond2 i = 1#1) (hC : k0_cond3 i = 1#1)
    (gX : Vec F S2048x768 .f32) (gWo : Vec F S768x768 .f32)
    (M0 : Memref sig .tc .vmem S1x768 .f32) (h0 : M0.IsWhole) (M1 : Memref sig .tc .vmem S1x768 .f32) (h1 : M1.IsWhole)
    (M2 : Memref sig .tc .vmem S768x128 .f32) (h2 : M2.IsWhole) (M3 : Memref sig .tc .vmem S2048x768 .f32) (h3 : M3.IsWhole)
    (M4 : Memref sig .tc .vmem S2048x128 .f32) (h4 : M4.IsWhole)
    (X0 X1 : Vec F S1x768 .f32) (X2 : Vec F S768x128 .f32) (X3 : Vec F S2048x768 .f32) (X4 : Vec F S2048x128 .f32)
    (Q : PUnit → sProp 𝕄) :
    iprop(pt c sX gX ∗ pt c sWo gWo ∗ owns (c : Thread nD τ) M0 fullShare X0 ∗ owns (c : Thread nD τ) M1 fullShare X1
      ∗ owns (c : Thread nD τ) M2 fullShare X2 ∗ owns (c : Thread nD τ) M3 fullShare X3 ∗ owns (c : Thread nD τ) M4 fullShare X4
      ∗ (iprop(pt c sX gX ∗ pt c sWo gWo ∗ owns (c : Thread nD τ) M0 fullShare X0 ∗ owns (c : Thread nD τ) M1 fullShare X1
          ∗ owns (c : Thread nD τ) M2 fullShare X2 ∗ owns (c : Thread nD τ) M3 fullShare (hOut gX X3 gWo X0 X1)
          ∗ owns (c : Thread nD τ) M4 fullShare (gOut gX X3 gWo X0 X1 X2)) -∗ Q ⟨⟩))
      ⊢ wp frame (wpE (defs₀ (F := F)) Variants.none c none) Set.univ (attnBody i M0 h0 M1 h1 M2 h2 M3 h3 M4 h4) Q := by
  simp only [owns_pt c h0, owns_pt c h1, owns_pt c h2, owns_pt c h3, owns_pt c h4]
  iintro ⟨S0, S1, ⟨%f0, %e0, W0⟩, ⟨%f1, %e1, W1⟩, ⟨%f2, %e2, W2⟩, ⟨%f3, %e3, W3⟩, ⟨%f4, %e4, W4⟩, Hk⟩
  subst e0 e1 e2 e3 e4
  sl_exec
  sl_step
  have eh : gateRun.sl.v40 c gX gWo M0 M1 M3 f0 f1 f3
      = hOut gX (M3.view.read (Elt F) f3) gWo (M0.view.read (Elt F) f0) (M1.view.read (Elt F) f1) := by
    have r0 := readAt_full (Val := Elt F) M0.view f0 zero2 inb_S1x768_S1x768_0_0
    have r1 := readAt_full (Val := Elt F) M1.view f1 zero2 inb_S1x768_S1x768_0_0
    have r3 := readAt_full (Val := Elt F) M3.view f3 zero2 inb_S2048x768_S2048x768_0_0
    have rX : View.ld gX (Rect.unit (s := S2048x768) ![0, 0] S2048x768.size inb_S2048x768_S2048x768_0_0) = gX := View.ld_unit_zero zero2 _ gX
    have rW : View.ld gWo (Rect.unit (s := S768x768) ![0, 0] S768x768.size inb_S768x768_S768x768_0_0) = gWo := View.ld_unit_zero zero2 _ gWo
    rw [← r0, ← r1, ← r3]
    conv_rhs => rw [← rX, ← rW]
    rfl
  have eg : k0_pay3 (gateRun.sl.v44 c gX gWo M0 M1 M2 M3 f0 f1 f2 f3) gateRun.sl.v45 (cmpi CmpIPredicate.slt gateRun.sl.v45 gateRun.sl.v46)
      = gOut gX (M3.view.read (Elt F) f3) gWo (M0.view.read (Elt F) f0) (M1.view.read (Elt F) f1) (M2.view.read (Elt F) f2) := by
    have r0 := readAt_full (Val := Elt F) M0.view f0 zero2 inb_S1x768_S1x768_0_0
    have r1 := readAt_full (Val := Elt F) M1.view f1 zero2 inb_S1x768_S1x768_0_0
    have r2 := readAt_full (Val := Elt F) M2.view f2 zero2 inb_S768x128_S768x128_0_0
    have r3 := readAt_full (Val := Elt F) M3.view f3 zero2 inb_S2048x768_S2048x768_0_0
    have rX : View.ld gX (Rect.unit (s := S2048x768) ![0, 0] S2048x768.size inb_S2048x768_S2048x768_0_0) = gX := View.ld_unit_zero zero2 _ gX
    have rW : View.ld gWo (Rect.unit (s := S768x768) ![0, 0] S768x768.size inb_S768x768_S768x768_0_0) = gWo := View.ld_unit_zero zero2 _ gWo
    rw [← r0, ← r1, ← r2, ← r3]
    conv_rhs => rw [← rX, ← rW]
    rfl
  rw [eh, eg]
  iapply Hk
  isplitl [S0]; · iexact S0
  isplitl [S1]; · iexact S1
  isplitl [W0]; · iexists f0; isplitr; · ipureintro; rfl
                  iexact W0
  isplitl [W1]; · iexists f1; isplitr; · ipureintro; rfl
                  iexact W1
  isplitl [W2]; · iexists f2; isplitr; · ipureintro; rfl
                  iexact W2
  isplitl [W3]
  · iexists _; isplitr; swap; · iexact W3
    ipureintro; exact read_store_full M3.view f3 zero2 _ _
  iexists _; isplitr; swap; · iexact W4
  ipureintro; exact read_store_full M4.view f4 zero2 _ _

end Cert.Proof.KI

end
-- ==== Proof.Region0.lean ====
/- The attention region's proof data: what its windows hold point by point, and its body obligation. -/
module

public import proofs.«01_k».proof.Proof.BodyLoad
public import proofs.«01_k».proof.Proof.BodyAttn
public import proofs.«01_k».proof.Proof.BodyGate
public import Idealize.ShloMosaic.Lib.Pipeline.Regions
public import Idealize.ShloMosaic.Lib.Pipeline.FrameBody
public import Idealize.ShloMosaic.Lib.Pipeline.ArrRel
public import Idealize.ShloMosaic.Lib.ValueIdxCore
public import Idealize.ShloMosaic.Lib.WritesUnit
public import Idealize.ShloMosaic.Lib.Pipeline.ValueKit.Tiles

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Idealize.ShloMosaic.ValueIdx

variable {F : FTy → Type} [FloatOps F] [Named F]

local notation "𝕄" => MT nD τ sig Unit (Elt F) ℕ (UU nD τ) ℕ

/-- What an uncut fetch puts in a buffer, at a position: the array at that position of the block. -/
theorem fetched_eq {Λ₀ : Labels} {cfg : Pipeline.Cfg sig Λ₀} {c : Dev nD} (rd : RDat τ (Elt F) Unit ℕ (UU nD τ) ℕ cfg c) (w : Fin cfg.W) (t : Fin cfg.N)
    (h : ∀ a, (cfg.win w).clip (cfg.grid.coords t) a = none) (d : (cfg.win w).block.Idx → Elt F (cfg.win w).elt)
    (j : (cfg.win w).block.Idx) (k : (cfg.win w).shape.Idx)
    (hk : ∀ a, (k a).val = (cfg.win w).kind.off ((cfg.win w).index t a) ((cfg.win w).size a) + 1 * (j a).val) :
    rd.fetched w t d j = _root_.cast (congrArg (Elt F) (cfg.win w).arr.view.elt_eq) (rd.A w ((cfg.win w).arr.view.emb k)) := by
  have hm : (cfg.win w).moved (cfg.grid.coords t) j = true :=
    ((cfg.win w).moved_iff _ j).mpr fun a => by have := (j a).isLt; unfold Pipeline.Window.xsize; rw [h a]; exact this
  unfold RDat.fetched Pipeline.Window.fill
  rw [dif_pos hm]
  unfold RDat.blockOf
  rw [View.read_apply]
  show _root_.cast _ (rd.A w ((cfg.win w).arr.view.emb (((cfg.win w).rect t).emb _))) = _
  congr 3
  funext a; apply Fin.ext
  rw [Rect.emb_apply]
  exact (hk a).symm

/-! ## The conditions at the points -/

theorem condA0 : ∀ t : Fin cfg0.N, (Scalar.cmpi .ne (Scalar.extui (Scalar.cmpi .eq (BitVec.ofNat 32 (grid0.coords t 0).val) 0#32)) 0#32 = 1#1) ↔ t.val = 0 := by decide
theorem condB0 : ∀ t : Fin cfg0.N, (k0_cond2 (grid0.coords t) = 1#1) ↔ (1 ≤ t.val ∧ t.val ≤ 8) := by decide
theorem condC0 : ∀ t : Fin cfg0.N, (k0_cond3 (grid0.coords t) = 1#1) ↔ t.val = 9 := by decide
theorem off0 : ∀ t : Fin cfg0.N, 1 ≤ t.val ∧ t.val ≤ 8 → k0_off1 (grid0.coords t) = ![256 * (t.val - 1), 0] := by decide

/-! ## What the region computes -/

/-- The rows of one block. -/
def rowsOf (x : Vec F S2048x768 .f32) (k : Fin 8) : Vec F S256x768 .f32 :=
  fun j => x (ix2 ⟨256 * k.val + (j 0).val, by have := k.isLt; have := (j 0).isLt; simp only [S256x768] at this; simp at this; omega⟩ (j 1))

/-- The attention output, block by block. -/
def ATT (x : Vec F S2048x768 .f32) (wq : Vec F S768x768 .f32) (kv : Vec F S2048x1536 .f32) : Vec F S2048x768 .f32 :=
  fun j => attnBlk (rowsOf x ⟨(j 0).val / 256, by have h : (j 0).val < 2048 := (j 0).isLt; omega⟩) wq kv
    (ix2 ⟨(j 0).val % 256, by omega⟩ (j 1))

section

variable (W : Valuation τ sig (Elt F))

abbrev xV : Vec F S2048x768 .f32 := W main_call0_v0
abbrev wqV : Vec F S768x768 .f32 := W main_call0_v2
abbrev wkvV : Vec F S768x1536 .f32 := W main_call0_v7
abbrev woV : Vec F S768x768 .f32 := W main_call0_v8
abbrev kvV : Vec F S2048x1536 .f32 := k0_pay1 (xV W) (wkvV W)
abbrev g1V : Vec F S1x768 .f32 := W (Proc.devRef .tc (Pipeline.arrRef spec0 0))
abbrev b1V : Vec F S1x768 .f32 := W (Proc.devRef .tc (Pipeline.arrRef spec0 1))
abbrev wgV : Vec F S768x128 .f32 := W (Proc.devRef .tc (Pipeline.arrRef spec0 2))
/-- The attention output the region computes, -/
abbrev attV : Vec F S2048x768 .f32 := ATT (xV W) (wqV W) (kvV W)
/-- the activations it writes -/
abbrev hV : Vec F S2048x768 .f32 := hOut (xV W) (attV W) (woV W) (g1V W) (b1V W)
/-- and the gate weights. -/
abbrev gateV : Vec F S2048x128 .f32 := gOut (xV W) (attV W) (woV W) (g1V W) (b1V W) (wgV W)

/-- What the body may leave in a window's staging buffer. -/
def after0 : (w : Fin cfg0.W) → Fin cfg0.N → (Y X : (cfg0.win w).block.Idx → Elt F (cfg0.win w).elt) → Prop
  | 0, _, Y, X => X = Y
  | 1, _, Y, X => X = Y
  | 2, _, Y, X => X = Y
  | 3, t, _, X => if t.val = 9 then (X : Vec F S2048x768 .f32) = hV W else ∀ j : S2048x768.Idx, (j 0).val < 256 * t.val → X j = attV W j
  | 4, t, _, X => t.val = 9 → (X : Vec F S2048x128 .f32) = gateV W
  | ⟨_ + 5, h⟩, _, _, _ => absurd h (Nat.not_lt.2 (Nat.le_add_left _ _))

/-- The invariant between the points. -/
def Φ0 (c : Dev nD) (t : Fin (cfg0.N + 1)) : sProp 𝕄 :=
  iprop((∃ (f0 : Bf (F := F) c sX) (f1 : Bf (F := F) c sWq) (f2 : Bf (F := F) c sKv) (f3 : Bf (F := F) c sWo),
      ⌜t.val ≠ 0 → f0 = xV W ∧ f1 = wqV W ∧ f2 = kvV W ∧ f3 = woV W⌝ ∗ pt c sX f0 ∗ pt c sWq f1 ∗ pt c sKv f2 ∗ pt c sWo f3)
    ∗ (∃ f, pt c sWkv f) ∗ semVal ((c : Thread nD τ), osem 0) 0
    ∗ pt c mX (xV W) ∗ pt c mWq (wqV W) ∗ pt c mWkv (wkvV W) ∗ pt c mWo (woV W))

/-- The region's proof data, its arrays read off the valuation it is entered at. -/
def rdat0 (R : sProp 𝕄) (c : Dev nD) : RDat τ (Elt F) Unit ℕ (UU nD τ) ℕ cfg0 c where
  A w := W (Proc.devRef .tc (Pipeline.arrRef spec0 w))
  after := after0 W
  Φ t := iprop(Φ0 W c t ∗ R)
  q _ := fullShare
  owed _ := 0

theorem finds_g1 (R : sProp 𝕄) (c : Dev nD) (t : Fin cfg0.N) (Y : Vec F S1x768 .f32) (h : (rdat0 W R c).Finds 0 t Y) : Y = g1V W := by
  have hk : ∀ (t : Fin cfg0.N) (Y X : (cfg0.win 0).block.Idx → Elt F (cfg0.win 0).elt), (rdat0 W R c).after 0 t Y X → X = Y := fun _ _ _ h => h
  obtain ⟨d, e⟩ := RDat.finds_in_eq_fetched (rdat0 W R c) 0 rfl (fun _ _ _ => rfl) hk t Y h
  rw [e]
  funext j
  exact fetched_eq (rdat0 W R c) 0 t (fun _ => rfl) d j j (fun a => by fin_cases a <;> exact (Nat.zero_add _).symm.trans (congrArg _ (Nat.one_mul _).symm))

theorem finds_b1 (R : sProp 𝕄) (c : Dev nD) (t : Fin cfg0.N) (Y : Vec F S1x768 .f32) (h : (rdat0 W R c).Finds 1 t Y) : Y = b1V W := by
  have hk : ∀ (t : Fin cfg0.N) (Y X : (cfg0.win 1).block.Idx → Elt F (cfg0.win 1).elt), (rdat0 W R c).after 1 t Y X → X = Y := fun _ _ _ h => h
  obtain ⟨d, e⟩ := RDat.finds_in_eq_fetched (rdat0 W R c) 1 rfl (fun _ _ _ => rfl) hk t Y h
  rw [e]
  funext j
  exact fetched_eq (rdat0 W R c) 1 t (fun _ => rfl) d j j (fun a => by fin_cases a <;> exact (Nat.zero_add _).symm.trans (congrArg _ (Nat.one_mul _).symm))

theorem finds_wg (R : sProp 𝕄) (c : Dev nD) (t : Fin cfg0.N) (Y : Vec F S768x128 .f32) (h : (rdat0 W R c).Finds 2 t Y) : Y = wgV W := by
  have hk : ∀ (t : Fin cfg0.N) (Y X : (cfg0.win 2).block.Idx → Elt F (cfg0.win 2).elt), (rdat0 W R c).after 2 t Y X → X = Y := fun _ _ _ h => h
  obtain ⟨d, e⟩ := RDat.finds_in_eq_fetched (rdat0 W R c) 2 rfl (fun _ _ _ => rfl) hk t Y h
  rw [e]
  funext j
  exact fetched_eq (rdat0 W R c) 2 t (fun _ => rfl) d j j (fun a => by fin_cases a <;> exact (Nat.zero_add _).symm.trans (congrArg _ (Nat.one_mul _).symm))

/-- Before the last point, the rows the earlier points wrote are in place. -/
theorem finds_att (R : sProp 𝕄) (c : Dev nD) (t : Fin cfg0.N) (Y : Vec F S2048x768 .f32) (h : (rdat0 W R c).Finds 3 t Y) :
    ∀ j : S2048x768.Idx, (j 0).val < 256 * (t.val - 1) → Y j = attV W j := by
  intro j hj
  have ht : t.val ≠ 0 := by rintro h0; rw [h0] at hj; omega
  have hN : t.val < 10 := t.isLt
  rcases (RDat.finds_of_pos (rdat0 W R c) (w := 3) (t := t) (Pipeline.Window.fetch_out _ rfl _) ht Y).mp h with hf | ⟨Z, -, hZ⟩
  · have := (flush0_3 _).mp hf
    dsimp only at this
    omega
  · have hZ' : if t.val - 1 = 9 then Y = hV W else ∀ j : S2048x768.Idx, (j 0).val < 256 * (t.val - 1) → Y j = attV W j := hZ
    rw [if_neg (by omega)] at hZ'
    exact hZ' j hj

/-- The rows a point reads are one block's. -/
theorem ld_rows (x : Vec F S2048x768 .f32) (t : Fin cfg0.N) (hB : k0_cond2 (grid0.coords t) = 1#1) :
    View.ld x (rowRect (grid0.coords t) hB) = rowsOf x ⟨t.val - 1, by have := (condB0 t).mp hB; omega⟩ := by
  funext j
  refine View.ld_unit_apply_of x _ _ _ j _ fun a => ?_
  refine Eq.trans ?_ (congrArg (· + (j a).val) (congrFun (off0 t ((condB0 t).mp hB)) a).symm)
  fin_cases a
  · rfl
  · exact (Nat.zero_add _).symm

/-- One point's store adds its block's rows. -/
theorem store_rows (c : Dev nD) (x : Vec F S2048x768 .f32) (wq : Vec F S768x768 .f32) (kv : Vec F S2048x1536 .f32)
    (t : Fin cfg0.N) (hB : k0_cond2 (grid0.coords t) = 1#1) (M : Memref sig .tc .vmem S2048x768 .f32) (f : Bf (F := F) c M)
    (h : ∀ j : S2048x768.Idx, (j 0).val < 256 * (t.val - 1) → M.view.read (Elt F) f j = ATT x wq kv j) (j : S2048x768.Idx) (hj : (j 0).val < 256 * t.val) :
    M.view.read (Elt F) (M.view.writes (Elt F) f [⟨rowRect (grid0.coords t) hB, attnBlk (View.ld x (rowRect (grid0.coords t) hB)) wq kv⟩]) j = ATT x wq kv j := by
  have ht := (condB0 t).mp hB
  rw [ld_rows x t hB]
  by_cases hlt : (j 0).val < 256 * (t.val - 1)
  · rw [View.read_writes_cons_unit_of_not_mem _ _ _ _ _ j (off0 t ht) (0 : Fin 2) (.inl hlt)]
    exact h j hlt
  · refine (View.read_writes_cons_unit_of_mem M.view f (size := S256x768.size) (k0_off1_inb (grid0.coords t) hB) _ [] j
      (ix2 (⟨(j 0).val % 256, by omega⟩ : Fin 256) (j 1) : S256x768.Idx) (off0 t ht) (fun a => by
      fin_cases a
      · show (j 0).val = 256 * (t.val - 1) + (j 0).val % 256
        omega
      · exact (Nat.zero_add _).symm)).trans ?_
    unfold ATT
    have e : (⟨t.val - 1, by omega⟩ : Fin 8) = ⟨(j 0).val / 256, by have h : (j 0).val < 2048 := (j 0).isLt; omega⟩ := Fin.ext (by show t.val - 1 = (j 0).val / 256; omega)
    rw [e]

set_option maxHeartbeats 4000000 in
/-- The body obligation. -/
theorem body0 (R : sProp 𝕄) (c : Dev nD) : (rdat0 W R c).BodyObligation (defs₀ (F := F)) Variants.none () Set.univ := by
  intro t Y hY
  have y0 := finds_g1 W R c t (Y 0) (hY 0)
  have y1 := finds_b1 W R c t (Y 1) (hY 1)
  have y2 := finds_wg W R c t (Y 2) (hY 2)
  have y3 := finds_att W R c t (Y 3) (hY 3)
  have hN : t.val < 10 := t.isLt
  rw [bigSep_W0, bigSep_W0]
  rw [show (rdat0 W R c).Φ t.castSucc = iprop(Φ0 W c t.castSucc ∗ R) from rfl, show (rdat0 W R c).Φ t.succ = iprop(Φ0 W c t.succ ∗ R) from rfl]
  unfold Φ0 RDat.owesAt Pipeline.owesWithin
  rw [show (rdat0 W R c).owed t.castSucc = 0 from rfl, show (rdat0 W R c).owed t.succ = 0 from rfl]
  have e0 : t.castSucc.val = t.val := rfl
  have e1 : t.succ.val = t.val + 1 := rfl
  rw [e0, e1]
  iintro ⟨⟨⟨⟨%f0, %f1, %f2, %f3, %hf, S0, S1, S2, S3⟩, ⟨%f4, S4⟩, Hd, G0, G1, G2, G3⟩, HR⟩, ⟨%V, %hW, HO⟩, W0, W1, W2, W3, W4⟩
  have hkeep0 : (rdat0 W R c).after 0 t (Y 0) (Y 0) := rfl
  have hkeep1 : (rdat0 W R c).after 1 t (Y 1) (Y 1) := rfl
  have hkeep2 : (rdat0 W R c).after 2 t (Y 2) (Y 2) := rfl
  by_cases hz : t.val = 0
  · have hA := (condA0 t).mpr hz
    have hB : ¬ k0_cond2 (grid0.coords t) = 1#1 := fun h => by have := (condB0 t).mp h; omega
    have hC : ¬ k0_cond3 (grid0.coords t) = 1#1 := fun h => by have := (condC0 t).mp h; omega
    have hk3 : (rdat0 W R c).after 3 t (Y 3) (Y 3) := by
      show if t.val = 9 then (Y 3 : Vec F S2048x768 .f32) = hV W else ∀ j : S2048x768.Idx, (j 0).val < 256 * t.val → Y 3 j = attV W j
      rw [if_neg (by omega)]
      intro j hj; rw [hz] at hj; omega
    have hk4 : (rdat0 W R c).after 4 t (Y 4) (Y 4) := fun h => absurd (h : t.val = 9) (by omega)
    iapply (loadRun c (grid0.coords t) hA hB hC (xV W) (wqV W) (wkvV W) (woV W) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4)) f0 f1 f2 f3 f4 V)
    isplitl [G0]; · iexact G0
    isplitl [G1]; · iexact G1
    isplitl [G2]; · iexact G2
    isplitl [G3]; · iexact G3
    isplitl [S0]; · iexact S0
    isplitl [S1]; · iexact S1
    isplitl [S2]; · iexact S2
    isplitl [S3]; · iexact S3
    isplitl [S4]; · iexact S4
    isplitl [Hd]; · iexact Hd
    isplitl [HO]; · iexact HO
    iintro ⟨G0, G1, G2, G3, S0, S1, S2, S3, S4, Hd, ⟨%V', HO⟩⟩
    isplitl [G0 G1 G2 G3 S0 S1 S2 S3 S4 Hd HR]
    · isplitr [HR]
      · isplitl [S0 S1 S2 S3]
        · iexists _, _, _, _
          isplitr; swap
          · isplitl [S0]; · iexact S0
            isplitl [S1]; · iexact S1
            isplitl [S2]; · iexact S2
            iexact S3
          ipureintro; exact fun _ => ⟨rfl, rfl, rfl, rfl⟩
        isplitl [S4]; · iexact S4
        isplitl [Hd]; · iexact Hd
        isplitl [G0]; · iexact G0
        isplitl [G1]; · iexact G1
        isplitl [G2]; · iexact G2
        iexact G3
      iexact HR
    isplitl [HO]
    · iexists V'; isplitr; · ipureintro; exact fun _ _ => Or.inl trivial
      iexact HO
    isplitl [W0]; · iexists _; isplitr; swap; (· iexact W0); ipureintro; exact hkeep0
    isplitl [W1]; · iexists _; isplitr; swap; (· iexact W1); ipureintro; exact hkeep1
    isplitl [W2]; · iexists _; isplitr; swap; (· iexact W2); ipureintro; exact hkeep2
    isplitl [W3]; · iexists _; isplitr; swap; (· iexact W3); ipureintro; exact hk3
    iexists _; isplitr; swap; (· iexact W4); ipureintro; exact hk4
  obtain ⟨rfl, rfl, rfl, rfl⟩ := hf hz
  have hA : ¬ (Scalar.cmpi .ne (Scalar.extui (Scalar.cmpi .eq (BitVec.ofNat 32 (grid0.coords t 0).val) 0#32)) 0#32 = 1#1) := fun h => hz ((condA0 t).mp h)
  by_cases h9 : t.val = 9
  · have hB : ¬ k0_cond2 (grid0.coords t) = 1#1 := fun h => by have := (condB0 t).mp h; omega
    have hC := (condC0 t).mpr h9
    have y3' : (Y 3 : Vec F S2048x768 .f32) = attV W := funext fun j => y3 j (by have h : (j 0).val < 2048 := (j 0).isLt; omega)
    iapply (gateRun c (grid0.coords t) hA hB hC (xV W) (woV W) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4)) (Y 0) (Y 1) (Y 2) (Y 3) (Y 4))
    isplitl [S0]; · iexact S0
    isplitl [S3]; · iexact S3
    isplitl [W0]; · iexact W0
    isplitl [W1]; · iexact W1
    isplitl [W2]; · iexact W2
    isplitl [W3]; · iexact W3
    isplitl [W4]; · iexact W4
    iintro ⟨S0, S3, W0, W1, W2, W3, W4⟩
    have hk3 : (rdat0 W R c).after 3 t (Y 3) (hOut (xV W) (Y 3) (woV W) (Y 0) (Y 1)) := by
      show if t.val = 9 then hOut (xV W) (Y 3) (woV W) (Y 0) (Y 1) = hV W else _
      rw [if_pos h9, y3', y0, y1]
    have hk4 : (rdat0 W R c).after 4 t (Y 4) (gOut (xV W) (Y 3) (woV W) (Y 0) (Y 1) (Y 2)) := fun _ => by
      show gOut (xV W) (Y 3) (woV W) (Y 0) (Y 1) (Y 2) = gateV W
      rw [y3', y0, y1, y2]
    isplitl [G0 G1 G2 G3 S0 S1 S2 S3 S4 Hd HR]
    · isplitr [HR]
      · isplitl [S0 S1 S2 S3]
        · iexists _, _, _, _
          isplitr; swap
          · isplitl [S0]; · iexact S0
            isplitl [S1]; · iexact S1
            isplitl [S2]; · iexact S2
            iexact S3
          ipureintro; exact fun _ => ⟨rfl, rfl, rfl, rfl⟩
        isplitl [S4]; · iexists _; iexact S4
        isplitl [Hd]; · iexact Hd
        isplitl [G0]; · iexact G0
        isplitl [G1]; · iexact G1
        isplitl [G2]; · iexact G2
        iexact G3
      iexact HR
    isplitl [HO]
    · iexists V; isplitr; · ipureintro; exact fun _ _ => Or.inl trivial
      iexact HO
    isplitl [W0]; · iexists _; isplitr; swap; (· iexact W0); ipureintro; exact hkeep0
    isplitl [W1]; · iexists _; isplitr; swap; (· iexact W1); ipureintro; exact hkeep1
    isplitl [W2]; · iexists _; isplitr; swap; (· iexact W2); ipureintro; exact hkeep2
    isplitl [W3]; · iexists _; isplitr; swap; (· iexact W3); ipureintro; exact hk3
    iexists _; isplitr; swap; (· iexact W4); ipureintro; exact hk4
  · have hB := (condB0 t).mpr ⟨by omega, by omega⟩
    have hC : ¬ k0_cond3 (grid0.coords t) = 1#1 := fun h => h9 ((condC0 t).mp h)
    iapply (attnRun c (grid0.coords t) hA hB hC (xV W) (wqV W) (kvV W) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4)) (Y 3))
    isplitl [S0]; · iexact S0
    isplitl [S1]; · iexact S1
    isplitl [S2]; · iexact S2
    isplitl [W3]; · iexact W3
    iintro ⟨S0, S1, S2, ⟨%g3, %hg3, W3⟩⟩
    have hk3 : (rdat0 W R c).after 3 t (Y 3) ((st0_3 t).view.read (Elt F) ((st0_3 t).view.writes (Elt F) g3 [⟨rowRect (grid0.coords t) hB, attnBlk (View.ld (xV W) (rowRect (grid0.coords t) hB)) (wqV W) (kvV W)⟩])) := by
      show if t.val = 9 then _ else ∀ j : S2048x768.Idx, (j 0).val < 256 * t.val → _ = attV W j
      rw [if_neg h9]
      intro j hj
      exact store_rows c (xV W) (wqV W) (kvV W) t hB (st0_3 t) g3 (fun j hj => by rw [hg3]; exact y3 j hj) j hj
    have hk4 : (rdat0 W R c).after 4 t (Y 4) (Y 4) := fun h => absurd (h : t.val = 9) h9
    isplitl [G0 G1 G2 G3 S0 S1 S2 S3 S4 Hd HR]
    · isplitr [HR]
      · isplitl [S0 S1 S2 S3]
        · iexists _, _, _, _
          isplitr; swap
          · isplitl [S0]; · iexact S0
            isplitl [S1]; · iexact S1
            isplitl [S2]; · iexact S2
            iexact S3
          ipureintro; exact fun _ => ⟨rfl, rfl, rfl, rfl⟩
        isplitl [S4]; · iexists _; iexact S4
        isplitl [Hd]; · iexact Hd
        isplitl [G0]; · iexact G0
        isplitl [G1]; · iexact G1
        isplitl [G2]; · iexact G2
        iexact G3
      iexact HR
    isplitl [HO]
    · iexists V; isplitr; · ipureintro; exact fun _ _ => Or.inl trivial
      iexact HO
    isplitl [W0]; · iexists _; isplitr; swap; (· iexact W0); ipureintro; exact hkeep0
    isplitl [W1]; · iexists _; isplitr; swap; (· iexact W1); ipureintro; exact hkeep1
    isplitl [W2]; · iexists _; isplitr; swap; (· iexact W2); ipureintro; exact hkeep2
    isplitl [W3]; · iexists _; isplitr; swap; (· iexact W3); ipureintro; exact hk3
    iexists _; isplitr; swap; (· iexact W4); ipureintro; exact hk4

end

end Cert.Proof.KI

end
-- ==== Proof.BodyMoe.lean ====
/- The expert kernel's steps: one expert added to the accumulator, and the last normalisation. -/
module

public import proofs.«01_k».proof.Proof.Blocks

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

abbrev sZ := (Memref.whole cc1_scratch0 : Memref sig .tc .vmem S2048x768 .f32)

section

variable (M0 : Memref sig .tc .vmem S2048x768 .f32) (h0 : M0.IsWhole) (M1 : Memref sig .tc .vmem S2048x128 .f32) (h1 : M1.IsWhole)
    (M2 : Memref sig .tc .vmem S1x768x512 .f32) (h2 : M2.IsWhole) (M3 : Memref sig .tc .vmem S1x1x512 .f32) (h3 : M3.IsWhole)
    (M4 : Memref sig .tc .vmem S1x512x768 .f32) (h4 : M4.IsWhole) (M5 : Memref sig .tc .vmem S1x1x768 .f32) (h5 : M5.IsWhole)
    (M6 : Memref sig .tc .vmem S1x768 .f32) (h6 : M6.IsWhole) (M7 : Memref sig .tc .vmem S1x768 .f32) (h7 : M7.IsWhole)
    (M8 : Memref sig .tc .vmem S2048x768 .f32) (h8 : M8.IsWhole)

/-- The second region's body at grid coordinates `i`, on staging memrefs `M0` … `M8`. -/
abbrev moeBody (i : grid1.Coords) : Prog (TpuEff nD τ sig (Elt F) Λ₀ .tc) PUnit :=
  cc1__moe_body i M0 h0 M1 h1 M2 h2 M3 h3 M4 h4 M5 h5 M6 h6 M7 h7 M8 h8 sZ (Memref.isWhole_whole _)

variable (X0 : Vec F S2048x768 .f32) (X1 : Vec F S2048x128 .f32) (X2 : Vec F S1x768x512 .f32) (X3 : Vec F S1x1x512 .f32)
    (X4 : Vec F S1x512x768 .f32) (X5 : Vec F S1x1x768 .f32) (X6 X7 : Vec F S1x768 .f32)

/-- What one expert's step reads: the activations, the gates and the expert's weights. -/
abbrev owned05 (c : Dev nD) : sProp 𝕄 :=
  iprop(owns (c : Thread nD τ) M0 fullShare X0 ∗ owns (c : Thread nD τ) M1 fullShare X1 ∗ owns (c : Thread nD τ) M2 fullShare X2
      ∗ owns (c : Thread nD τ) M3 fullShare X3 ∗ owns (c : Thread nD τ) M4 fullShare X4 ∗ owns (c : Thread nD τ) M5 fullShare X5)

/-- The expert's gated contribution at step `i`. -/
abbrev expBlk (i : grid1.Coords) : FVec F S2048x768 .f32 := k1_pay5 (BitVec.ofNat 32 (i 0).val) X0 X2 X3 X4 X5 X1

set_option maxHeartbeats 8000000 in
set_option maxRecDepth 65536 in
/-- At step 0 the accumulator takes the activations plus the first expert's contribution. -/
theorem firstRun (c : Dev nD) (i : grid1.Coords)
    (hA : Scalar.cmpi .ne (Scalar.extui (Scalar.cmpi .slt (BitVec.ofNat 32 (i 0).val) 8#32)) 0#32 = 1#1)
    (hB : Scalar.cmpi .ne (Scalar.extui (Scalar.cmpi .eq (BitVec.ofNat 32 (i 0).val) 0#32)) 0#32 = 1#1)
    (hC : ¬ Scalar.cmpi .ne (Scalar.extui (Scalar.cmpi .sgt (BitVec.ofNat 32 (i 0).val) 0#32)) 0#32 = 1#1) (hD : ¬ k1_cond4 i = 1#1)
    (gZ : Vec F S2048x768 .f32) (Q : PUnit → sProp 𝕄) :
    iprop(pt c sZ gZ ∗ owned05 M0 M1 M2 M3 M4 M5 X0 X1 X2 X3 X4 X5 c
      ∗ (iprop(pt c sZ (k1_pay1 (k1_pay4 X0) (expBlk X0 X1 X2 X3 X4 X5 i) : Vec F S2048x768 .f32) ∗ owned05 M0 M1 M2 M3 M4 M5 X0 X1 X2 X3 X4 X5 c) -∗ Q ⟨⟩))
      ⊢ wp frame (wpE (defs₀ (F := F)) Variants.none c none) Set.univ
          (moeBody M0 h0 M1 h1 M2 h2 M3 h3 M4 h4 M5 h5 M6 h6 M7 h7 M8 h8 i) Q := by
  unfold owned05
  simp only [owns_pt c h0, owns_pt c h1, owns_pt c h2, owns_pt c h3, owns_pt c h4, owns_pt c h5]
  iintro ⟨S0, ⟨⟨%f0, %e0, W0⟩, ⟨%f1, %e1, W1⟩, ⟨%f2, %e2, W2⟩, ⟨%f3, %e3, W3⟩, ⟨%f4, %e4, W4⟩, ⟨%f5, %e5, W5⟩⟩, Hk⟩
  subst e0 e1 e2 e3 e4 e5
  sl_exec
  sl_step
  have ev : firstRun.sl.v50 M0 M1 M2 M3 M4 M5 c i f0 f1 f2 f3 f4 f5 = k1_pay1 (k1_pay4 (M0.view.read (Elt F) f0)) (expBlk (M0.view.read (Elt F) f0) (M1.view.read (Elt F) f1) (M2.view.read (Elt F) f2) (M3.view.read (Elt F) f3) (M4.view.read (Elt F) f4) (M5.view.read (Elt F) f5) i) := by
    have r0 := readAt_full (Val := Elt F) M0.view f0 zero2 inb_S2048x768_S2048x768_0_0
    have r1 := readAt_full (Val := Elt F) M1.view f1 zero2 inb_S2048x128_S2048x128_0_0
    have r2 := readAt_full (Val := Elt F) M2.view f2 zero3 inb_S1x768x512_S1x768x512_0_0_0
    have r3 := readAt_full (Val := Elt F) M3.view f3 zero3 inb_S1x1x512_S1x1x512_0_0_0
    have r4 := readAt_full (Val := Elt F) M4.view f4 zero3 inb_S1x512x768_S1x512x768_0_0_0
    have r5 := readAt_full (Val := Elt F) M5.view f5 zero3 inb_S1x1x768_S1x1x768_0_0_0
    rw [← r0, ← r1, ← r2, ← r3, ← r4, ← r5]
    rfl
  have eK : sZ.view.writes (Elt F) gZ [⟨Rect.unit ![0, 0] S2048x768.size inb_S2048x768_S2048x768_0_0, k1_pay1 (k1_pay4 (M0.view.read (Elt F) f0)) (expBlk (M0.view.read (Elt F) f0) (M1.view.read (Elt F) f1) (M2.view.read (Elt F) f2) (M3.view.read (Elt F) f3) (M4.view.read (Elt F) f4) (M5.view.read (Elt F) f5) i)⟩] = k1_pay1 (k1_pay4 (M0.view.read (Elt F) f0)) (expBlk (M0.view.read (Elt F) f0) (M1.view.read (Elt F) f1) (M2.view.read (Elt F) f2) (M3.view.read (Elt F) f3) (M4.view.read (Elt F) f4) (M5.view.read (Elt F) f5) i) := by
    have e := read_store_full (Val := Elt F) sZ.view gZ zero2 inb_S2048x768_S2048x768_0_0 (k1_pay1 (k1_pay4 (M0.view.read (Elt F) f0)) (expBlk (M0.view.read (Elt F) f0) (M1.view.read (Elt F) f1) (M2.view.read (Elt F) f2) (M3.view.read (Elt F) f3) (M4.view.read (Elt F) f4) (M5.view.read (Elt F) f5) i))
    rw [View.read_whole] at e
    exact e
  rw [ev, eK]
  iapply Hk
  isplitl [S0]; · iexact S0
  isplitl [W0]; · iexists f0; isplitr; · ipureintro; rfl
                  iexact W0
  isplitl [W1]; · iexists f1; isplitr; · ipureintro; rfl
                  iexact W1
  isplitl [W2]; · iexists f2; isplitr; · ipureintro; rfl
                  iexact W2
  isplitl [W3]; · iexists f3; isplitr; · ipureintro; rfl
                  iexact W3
  isplitl [W4]; · iexists f4; isplitr; · ipureintro; rfl
                  iexact W4
  iexists f5; isplitr; · ipureintro; rfl
  iexact W5

set_option maxHeartbeats 8000000 in
set_option maxRecDepth 65536 in
/-- At steps 1 to 7 one expert's contribution is added to the accumulator. -/
theorem nextRun (c : Dev nD) (i : grid1.Coords)
    (hA : Scalar.cmpi .ne (Scalar.extui (Scalar.cmpi .slt (BitVec.ofNat 32 (i 0).val) 8#32)) 0#32 = 1#1)
    (hB : ¬ Scalar.cmpi .ne (Scalar.extui (Scalar.cmpi .eq (BitVec.ofNat 32 (i 0).val) 0#32)) 0#32 = 1#1)
    (hC : Scalar.cmpi .ne (Scalar.extui (Scalar.cmpi .sgt (BitVec.ofNat 32 (i 0).val) 0#32)) 0#32 = 1#1) (hD : ¬ k1_cond4 i = 1#1)
    (gZ : Vec F S2048x768 .f32) (Q : PUnit → sProp 𝕄) :
    iprop(pt c sZ gZ ∗ owned05 M0 M1 M2 M3 M4 M5 X0 X1 X2 X3 X4 X5 c
      ∗ (iprop(pt c sZ (k1_pay2 (expBlk X0 X1 X2 X3 X4 X5 i) gZ : Vec F S2048x768 .f32) ∗ owned05 M0 M1 M2 M3 M4 M5 X0 X1 X2 X3 X4 X5 c) -∗ Q ⟨⟩))
      ⊢ wp frame (wpE (defs₀ (F := F)) Variants.none c none) Set.univ
          (moeBody M0 h0 M1 h1 M2 h2 M3 h3 M4 h4 M5 h5 M6 h6 M7 h7 M8 h8 i) Q := by
  unfold owned05
  simp only [owns_pt c h0, owns_pt c h1, owns_pt c h2, owns_pt c h3, owns_pt c h4, owns_pt c h5]
  iintro ⟨S0, ⟨⟨%f0, %e0, W0⟩, ⟨%f1, %e1, W1⟩, ⟨%f2, %e2, W2⟩, ⟨%f3, %e3, W3⟩, ⟨%f4, %e4, W4⟩, ⟨%f5, %e5, W5⟩⟩, Hk⟩
  subst e0 e1 e2 e3 e4 e5
  sl_exec
  sl_step
  have ev : nextRun.sl.v51 M0 M1 M2 M3 M4 M5 c i gZ f0 f1 f2 f3 f4 f5 = k1_pay2 (expBlk (M0.view.read (Elt F) f0) (M1.view.read (Elt F) f1) (M2.view.read (Elt F) f2) (M3.view.read (Elt F) f3) (M4.view.read (Elt F) f4) (M5.view.read (Elt F) f5) i) gZ := by
    have r0 := readAt_full (Val := Elt F) M0.view f0 zero2 inb_S2048x768_S2048x768_0_0
    have r1 := readAt_full (Val := Elt F) M1.view f1 zero2 inb_S2048x128_S2048x128_0_0
    have r2 := readAt_full (Val := Elt F) M2.view f2 zero3 inb_S1x768x512_S1x768x512_0_0_0
    have r3 := readAt_full (Val := Elt F) M3.view f3 zero3 inb_S1x1x512_S1x1x512_0_0_0
    have r4 := readAt_full (Val := Elt F) M4.view f4 zero3 inb_S1x512x768_S1x512x768_0_0_0
    have r5 := readAt_full (Val := Elt F) M5.view f5 zero3 inb_S1x1x768_S1x1x768_0_0_0
    have rZ : View.ld gZ (Rect.unit (s := S2048x768) ![0, 0] S2048x768.size inb_S2048x768_S2048x768_0_0) = gZ := View.ld_unit_zero zero2 _ gZ
    rw [← r0, ← r1, ← r2, ← r3, ← r4, ← r5]
    conv_rhs => rw [← rZ]
    rfl
  have eK : sZ.view.writes (Elt F) gZ [⟨Rect.unit ![0, 0] S2048x768.size inb_S2048x768_S2048x768_0_0, k1_pay2 (expBlk (M0.view.read (Elt F) f0) (M1.view.read (Elt F) f1) (M2.view.read (Elt F) f2) (M3.view.read (Elt F) f3) (M4.view.read (Elt F) f4) (M5.view.read (Elt F) f5) i) gZ⟩] = k1_pay2 (expBlk (M0.view.read (Elt F) f0) (M1.view.read (Elt F) f1) (M2.view.read (Elt F) f2) (M3.view.read (Elt F) f3) (M4.view.read (Elt F) f4) (M5.view.read (Elt F) f5) i) gZ := by
    have e := read_store_full (Val := Elt F) sZ.view gZ zero2 inb_S2048x768_S2048x768_0_0 (k1_pay2 (expBlk (M0.view.read (Elt F) f0) (M1.view.read (Elt F) f1) (M2.view.read (Elt F) f2) (M3.view.read (Elt F) f3) (M4.view.read (Elt F) f4) (M5.view.read (Elt F) f5) i) gZ)
    rw [View.read_whole] at e
    exact e
  rw [ev, eK]
  iapply Hk
  isplitl [S0]; · iexact S0
  isplitl [W0]; · iexists f0; isplitr; · ipureintro; rfl
                  iexact W0
  isplitl [W1]; · iexists f1; isplitr; · ipureintro; rfl
                  iexact W1
  isplitl [W2]; · iexists f2; isplitr; · ipureintro; rfl
                  iexact W2
  isplitl [W3]; · iexists f3; isplitr; · ipureintro; rfl
                  iexact W3
  isplitl [W4]; · iexists f4; isplitr; · ipureintro; rfl
                  iexact W4
  iexists f5; isplitr; · ipureintro; rfl
  iexact W5

set_option maxHeartbeats 8000000 in
/-- At the last step the accumulator is normalised into the output window. -/
theorem lastRun (c : Dev nD) (i : grid1.Coords)
    (hA : ¬ Scalar.cmpi .ne (Scalar.extui (Scalar.cmpi .slt (BitVec.ofNat 32 (i 0).val) 8#32)) 0#32 = 1#1) (hD : k1_cond4 i = 1#1)
    (gZ : Vec F S2048x768 .f32) (X8 : Vec F S2048x768 .f32) (Q : PUnit → sProp 𝕄) :
    iprop(pt c sZ gZ ∗ owns (c : Thread nD τ) M6 fullShare X6 ∗ owns (c : Thread nD τ) M7 fullShare X7 ∗ owns (c : Thread nD τ) M8 fullShare X8
      ∗ (iprop(pt c sZ gZ ∗ owns (c : Thread nD τ) M6 fullShare X6 ∗ owns (c : Thread nD τ) M7 fullShare X7
          ∗ owns (c : Thread nD τ) M8 fullShare (k1_pay3 gZ X6 X7)) -∗ Q ⟨⟩))
      ⊢ wp frame (wpE (defs₀ (F := F)) Variants.none c none) Set.univ
          (moeBody M0 h0 M1 h1 M2 h2 M3 h3 M4 h4 M5 h5 M6 h6 M7 h7 M8 h8 i) Q := by
  simp only [owns_pt c h6, owns_pt c h7, owns_pt c h8]
  iintro ⟨S0, ⟨%f6, %e6, W6⟩, ⟨%f7, %e7, W7⟩, ⟨%f8, %e8, W8⟩, Hk⟩
  subst e6 e7 e8
  sl_exec
  sl_step
  have ev : lastRun.sl.v30 M6 M7 c gZ f6 f7 = k1_pay3 gZ (M6.view.read (Elt F) f6) (M7.view.read (Elt F) f7) := by
    have r6 := readAt_full (Val := Elt F) M6.view f6 zero2 inb_S1x768_S1x768_0_0
    have r7 := readAt_full (Val := Elt F) M7.view f7 zero2 inb_S1x768_S1x768_0_0
    have rZ : View.ld gZ (Rect.unit (s := S2048x768) ![0, 0] S2048x768.size inb_S2048x768_S2048x768_0_0) = gZ := View.ld_unit_zero zero2 _ gZ
    rw [← r6, ← r7]
    conv_rhs => rw [← rZ]
    rfl
  rw [ev]
  iapply Hk
  isplitl [S0]; · iexact S0
  isplitl [W6]; · iexists f6; isplitr; · ipureintro; rfl
                  iexact W6
  isplitl [W7]; · iexists f7; isplitr; · ipureintro; rfl
                  iexact W7
  iexists _; isplitr; swap; · iexact W8
  ipureintro; exact read_store_full M8.view f8 zero2 _ _

end

end Cert.Proof.KI

end
-- ==== Proof.Region1.lean ====
/- The expert region's proof data: what its windows hold point by point, and its body obligation. -/
module

public import proofs.«01_k».proof.Proof.Region0
public import proofs.«01_k».proof.Proof.BodyMoe

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Idealize.ShloMosaic.ValueIdx

variable {F : FTy → Type} [FloatOps F] [Named F]

local notation "𝕄" => MT nD τ sig Unit (Elt F) ℕ (UU nD τ) ℕ

/-! ## The conditions at the points -/

theorem coord1 : ∀ t : Fin cfg1.N, (grid1.coords t 0).val = t.val := by decide
theorem condA1 : ∀ t : Fin cfg1.N, (Scalar.cmpi .ne (Scalar.extui (Scalar.cmpi .slt (BitVec.ofNat 32 (grid1.coords t 0).val) 8#32)) 0#32 = 1#1) ↔ t.val < 8 := by decide
theorem condB1 : ∀ t : Fin cfg1.N, (Scalar.cmpi .ne (Scalar.extui (Scalar.cmpi .eq (BitVec.ofNat 32 (grid1.coords t 0).val) 0#32)) 0#32 = 1#1) ↔ t.val = 0 := by decide
theorem condC1 : ∀ t : Fin cfg1.N, (Scalar.cmpi .ne (Scalar.extui (Scalar.cmpi .sgt (BitVec.ofNat 32 (grid1.coords t 0).val) 0#32)) 0#32 = 1#1) ↔ 0 < t.val := by decide
theorem condD1 : ∀ t : Fin cfg1.N, (k1_cond4 (grid1.coords t) = 1#1) ↔ t.val = 8 := by decide
theorem ix1_2 : ∀ t : Fin cfg1.N, (cfg1.win 2).kind.off ((cfg1.win 2).index t (0 : Fin 3)) ((cfg1.win 2).size (0 : Fin 3)) = min t.val 7 := by decide
theorem ix1_3 : ∀ t : Fin cfg1.N, (cfg1.win 3).kind.off ((cfg1.win 3).index t (0 : Fin 3)) ((cfg1.win 3).size (0 : Fin 3)) = min t.val 7 := by decide
theorem ix1_4 : ∀ t : Fin cfg1.N, (cfg1.win 4).kind.off ((cfg1.win 4).index t (0 : Fin 3)) ((cfg1.win 4).size (0 : Fin 3)) = min t.val 7 := by decide
theorem ix1_5 : ∀ t : Fin cfg1.N, (cfg1.win 5).kind.off ((cfg1.win 5).index t (0 : Fin 3)) ((cfg1.win 5).size (0 : Fin 3)) = min t.val 7 := by decide

/-! ## What the region computes -/

/-- The expert of a step (the last step keeps the last one's weights). -/
def expIx (n : ℕ) : Fin 8 := ⟨min n 7, by omega⟩

section

variable (W : Valuation τ sig (Elt F))

abbrev hinV : Vec F S2048x768 .f32 := W (Proc.devRef .tc (Pipeline.arrRef spec1 0))
abbrev ginV : Vec F S2048x128 .f32 := W (Proc.devRef .tc (Pipeline.arrRef spec1 1))
def w1V (n : ℕ) : Vec F S1x768x512 .f32 := fun j => (W (Proc.devRef .tc (Pipeline.arrRef spec1 2)) : Vec F S8x768x512 .f32) (ix3 (expIx n) (j 1) (j 2))
def b1eV (n : ℕ) : Vec F S1x1x512 .f32 := fun j => (W (Proc.devRef .tc (Pipeline.arrRef spec1 3)) : Vec F S8x1x512 .f32) (ix3 (expIx n) (j 1) (j 2))
def w2V (n : ℕ) : Vec F S1x512x768 .f32 := fun j => (W (Proc.devRef .tc (Pipeline.arrRef spec1 4)) : Vec F S8x512x768 .f32) (ix3 (expIx n) (j 1) (j 2))
def b2eV (n : ℕ) : Vec F S1x1x768 .f32 := fun j => (W (Proc.devRef .tc (Pipeline.arrRef spec1 5)) : Vec F S8x1x768 .f32) (ix3 (expIx n) (j 1) (j 2))
abbrev g2V : Vec F S1x768 .f32 := W (Proc.devRef .tc (Pipeline.arrRef spec1 6))
abbrev be2V : Vec F S1x768 .f32 := W (Proc.devRef .tc (Pipeline.arrRef spec1 7))

/-- One expert's gated contribution. -/
def expV (n : ℕ) : Vec F S2048x768 .f32 := k1_pay5 (BitVec.ofNat 32 n) (hinV W) (w1V W n) (b1eV W n) (w2V W n) (b2eV W n) (ginV W)

/-- The accumulator after the experts up to `n`. -/
def accV : ℕ → Vec F S2048x768 .f32
  | 0 => k1_pay1 (k1_pay4 (hinV W)) (expV W 0)
  | n + 1 => k1_pay2 (expV W (n + 1)) (accV n)

/-- What the region writes. -/
abbrev yV : Vec F S2048x768 .f32 := k1_pay3 (accV W 7) (g2V W) (be2V W)

/-- What the body may leave in a window's staging buffer. -/
def after1 : (w : Fin cfg1.W) → Fin cfg1.N → (Y X : (cfg1.win w).block.Idx → Elt F (cfg1.win w).elt) → Prop
  | 0, _, Y, X => X = Y
  | 1, _, Y, X => X = Y
  | 2, _, Y, X => X = Y
  | 3, _, Y, X => X = Y
  | 4, _, Y, X => X = Y
  | 5, _, Y, X => X = Y
  | 6, _, Y, X => X = Y
  | 7, _, Y, X => X = Y
  | 8, t, _, X => t.val = 8 → (X : Vec F S2048x768 .f32) = yV W
  | ⟨_ + 9, h⟩, _, _, _ => absurd h (Nat.not_lt.2 (Nat.le_add_left _ _))

/-- The invariant between the points: the accumulator. -/
def Φ1 (c : Dev nD) (t : Fin (cfg1.N + 1)) : sProp 𝕄 :=
  iprop(∃ f : Bf (F := F) c sZ, ⌜t.val ≠ 0 → f = accV W (min (t.val - 1) 7)⌝ ∗ pt c sZ f)

/-- The region's proof data, its arrays read off the valuation it is entered at. -/
def rdat1 (R : sProp 𝕄) (c : Dev nD) : RDat τ (Elt F) Unit ℕ (UU nD τ) ℕ cfg1 c where
  A w := W (Proc.devRef .tc (Pipeline.arrRef spec1 w))
  after := after1 W
  Φ t := iprop(Φ1 W c t ∗ R)
  q _ := fullShare
  owed _ := 0

theorem finds1_0 (R : sProp 𝕄) (c : Dev nD) (t : Fin cfg1.N) (Y : Vec F S2048x768 .f32) (h : (rdat1 W R c).Finds 0 t Y) : Y = hinV W := by
  have hk : ∀ (t : Fin cfg1.N) (Y X : (cfg1.win 0).block.Idx → Elt F (cfg1.win 0).elt), (rdat1 W R c).after 0 t Y X → X = Y := fun _ _ _ h => h
  obtain ⟨d, e⟩ := RDat.finds_in_eq_fetched (rdat1 W R c) 0 rfl (fun _ _ _ => rfl) hk t Y h
  rw [e]
  funext j
  exact fetched_eq (rdat1 W R c) 0 t (fun _ => rfl) d j j (fun a => by fin_cases a <;> exact (Nat.zero_add _).symm.trans (congrArg _ (Nat.one_mul _).symm))

theorem finds1_1 (R : sProp 𝕄) (c : Dev nD) (t : Fin cfg1.N) (Y : Vec F S2048x128 .f32) (h : (rdat1 W R c).Finds 1 t Y) : Y = ginV W := by
  have hk : ∀ (t : Fin cfg1.N) (Y X : (cfg1.win 1).block.Idx → Elt F (cfg1.win 1).elt), (rdat1 W R c).after 1 t Y X → X = Y := fun _ _ _ h => h
  obtain ⟨d, e⟩ := RDat.finds_in_eq_fetched (rdat1 W R c) 1 rfl (fun _ _ _ => rfl) hk t Y h
  rw [e]
  funext j
  exact fetched_eq (rdat1 W R c) 1 t (fun _ => rfl) d j j (fun a => by fin_cases a <;> exact (Nat.zero_add _).symm.trans (congrArg _ (Nat.one_mul _).symm))

theorem finds1_2 (R : sProp 𝕄) (c : Dev nD) (t : Fin cfg1.N) (Y : Vec F S1x768x512 .f32) (h : (rdat1 W R c).Finds 2 t Y) : Y = w1V W t.val := by
  have hk : ∀ (t : Fin cfg1.N) (Y X : (cfg1.win 2).block.Idx → Elt F (cfg1.win 2).elt), (rdat1 W R c).after 2 t Y X → X = Y := fun _ _ _ h => h
  obtain ⟨d, e⟩ := RDat.finds_in_eq_fetched (rdat1 W R c) 2 rfl (fun _ _ _ => rfl) hk t Y h
  rw [e]
  funext j
  exact fetched_eq (rdat1 W R c) 2 t (fun _ => rfl) d j (ix3 (expIx t.val) (j 1) (j 2)) (fun a => by
    fin_cases a
    · have h0 : (j 0).val < 1 := (j 0).isLt
      refine Eq.trans ?_ (congrArg (· + 1 * (j 0).val) (ix1_2 t).symm)
      show min t.val 7 = min t.val 7 + 1 * (j 0).val
      omega
    · exact (Nat.zero_add _).symm.trans (congrArg _ (Nat.one_mul _).symm)
    · exact (Nat.zero_add _).symm.trans (congrArg _ (Nat.one_mul _).symm))

theorem finds1_3 (R : sProp 𝕄) (c : Dev nD) (t : Fin cfg1.N) (Y : Vec F S1x1x512 .f32) (h : (rdat1 W R c).Finds 3 t Y) : Y = b1eV W t.val := by
  have hk : ∀ (t : Fin cfg1.N) (Y X : (cfg1.win 3).block.Idx → Elt F (cfg1.win 3).elt), (rdat1 W R c).after 3 t Y X → X = Y := fun _ _ _ h => h
  obtain ⟨d, e⟩ := RDat.finds_in_eq_fetched (rdat1 W R c) 3 rfl (fun _ _ _ => rfl) hk t Y h
  rw [e]
  funext j
  exact fetched_eq (rdat1 W R c) 3 t (fun _ => rfl) d j (ix3 (expIx t.val) (j 1) (j 2)) (fun a => by
    fin_cases a
    · have h0 : (j 0).val < 1 := (j 0).isLt
      refine Eq.trans ?_ (congrArg (· + 1 * (j 0).val) (ix1_3 t).symm)
      show min t.val 7 = min t.val 7 + 1 * (j 0).val
      omega
    · exact (Nat.zero_add _).symm.trans (congrArg _ (Nat.one_mul _).symm)
    · exact (Nat.zero_add _).symm.trans (congrArg _ (Nat.one_mul _).symm))

theorem finds1_4 (R : sProp 𝕄) (c : Dev nD) (t : Fin cfg1.N) (Y : Vec F S1x512x768 .f32) (h : (rdat1 W R c).Finds 4 t Y) : Y = w2V W t.val := by
  have hk : ∀ (t : Fin cfg1.N) (Y X : (cfg1.win 4).block.Idx → Elt F (cfg1.win 4).elt), (rdat1 W R c).after 4 t Y X → X = Y := fun _ _ _ h => h
  obtain ⟨d, e⟩ := RDat.finds_in_eq_fetched (rdat1 W R c) 4 rfl (fun _ _ _ => rfl) hk t Y h
  rw [e]
  funext j
  exact fetched_eq (rdat1 W R c) 4 t (fun _ => rfl) d j (ix3 (expIx t.val) (j 1) (j 2)) (fun a => by
    fin_cases a
    · have h0 : (j 0).val < 1 := (j 0).isLt
      refine Eq.trans ?_ (congrArg (· + 1 * (j 0).val) (ix1_4 t).symm)
      show min t.val 7 = min t.val 7 + 1 * (j 0).val
      omega
    · exact (Nat.zero_add _).symm.trans (congrArg _ (Nat.one_mul _).symm)
    · exact (Nat.zero_add _).symm.trans (congrArg _ (Nat.one_mul _).symm))

theorem finds1_5 (R : sProp 𝕄) (c : Dev nD) (t : Fin cfg1.N) (Y : Vec F S1x1x768 .f32) (h : (rdat1 W R c).Finds 5 t Y) : Y = b2eV W t.val := by
  have hk : ∀ (t : Fin cfg1.N) (Y X : (cfg1.win 5).block.Idx → Elt F (cfg1.win 5).elt), (rdat1 W R c).after 5 t Y X → X = Y := fun _ _ _ h => h
  obtain ⟨d, e⟩ := RDat.finds_in_eq_fetched (rdat1 W R c) 5 rfl (fun _ _ _ => rfl) hk t Y h
  rw [e]
  funext j
  exact fetched_eq (rdat1 W R c) 5 t (fun _ => rfl) d j (ix3 (expIx t.val) (j 1) (j 2)) (fun a => by
    fin_cases a
    · have h0 : (j 0).val < 1 := (j 0).isLt
      refine Eq.trans ?_ (congrArg (· + 1 * (j 0).val) (ix1_5 t).symm)
      show min t.val 7 = min t.val 7 + 1 * (j 0).val
      omega
    · exact (Nat.zero_add _).symm.trans (congrArg _ (Nat.one_mul _).symm)
    · exact (Nat.zero_add _).symm.trans (congrArg _ (Nat.one_mul _).symm))

theorem finds1_6 (R : sProp 𝕄) (c : Dev nD) (t : Fin cfg1.N) (Y : Vec F S1x768 .f32) (h : (rdat1 W R c).Finds 6 t Y) : Y = g2V W := by
  have hk : ∀ (t : Fin cfg1.N) (Y X : (cfg1.win 6).block.Idx → Elt F (cfg1.win 6).elt), (rdat1 W R c).after 6 t Y X → X = Y := fun _ _ _ h => h
  obtain ⟨d, e⟩ := RDat.finds_in_eq_fetched (rdat1 W R c) 6 rfl (fun _ _ _ => rfl) hk t Y h
  rw [e]
  funext j
  exact fetched_eq (rdat1 W R c) 6 t (fun _ => rfl) d j j (fun a => by fin_cases a <;> exact (Nat.zero_add _).symm.trans (congrArg _ (Nat.one_mul _).symm))

theorem finds1_7 (R : sProp 𝕄) (c : Dev nD) (t : Fin cfg1.N) (Y : Vec F S1x768 .f32) (h : (rdat1 W R c).Finds 7 t Y) : Y = be2V W := by
  have hk : ∀ (t : Fin cfg1.N) (Y X : (cfg1.win 7).block.Idx → Elt F (cfg1.win 7).elt), (rdat1 W R c).after 7 t Y X → X = Y := fun _ _ _ h => h
  obtain ⟨d, e⟩ := RDat.finds_in_eq_fetched (rdat1 W R c) 7 rfl (fun _ _ _ => rfl) hk t Y h
  rw [e]
  funext j
  exact fetched_eq (rdat1 W R c) 7 t (fun _ => rfl) d j j (fun a => by fin_cases a <;> exact (Nat.zero_add _).symm.trans (congrArg _ (Nat.one_mul _).symm))

set_option maxHeartbeats 4000000 in
/-- The body obligation. -/
theorem body1 (R : sProp 𝕄) (c : Dev nD) : (rdat1 W R c).BodyObligation (defs₀ (F := F)) Variants.none () Set.univ := by
  intro t Y hY
  have y0 := finds1_0 W R c t (Y 0) (hY 0)
  have y1 := finds1_1 W R c t (Y 1) (hY 1)
  have y2 := finds1_2 W R c t (Y 2) (hY 2)
  have y3 := finds1_3 W R c t (Y 3) (hY 3)
  have y4 := finds1_4 W R c t (Y 4) (hY 4)
  have y5 := finds1_5 W R c t (Y 5) (hY 5)
  have y6 := finds1_6 W R c t (Y 6) (hY 6)
  have y7 := finds1_7 W R c t (Y 7) (hY 7)
  have hN : t.val < 9 := t.isLt
  have eX : expBlk (Y 0) (Y 1) (Y 2) (Y 3) (Y 4) (Y 5) (grid1.coords t) = expV W t.val := by
    unfold expV
    rw [y0, y1, y2, y3, y4, y5]
    show k1_pay5 (BitVec.ofNat 32 (grid1.coords t 0).val) _ _ _ _ _ _ = _
    rw [coord1 t]
  rw [bigSep_W1, bigSep_W1]
  rw [show (rdat1 W R c).Φ t.castSucc = iprop(Φ1 W c t.castSucc ∗ R) from rfl, show (rdat1 W R c).Φ t.succ = iprop(Φ1 W c t.succ ∗ R) from rfl]
  unfold Φ1 RDat.owesAt Pipeline.owesWithin
  rw [show (rdat1 W R c).owed t.castSucc = 0 from rfl, show (rdat1 W R c).owed t.succ = 0 from rfl]
  have e0 : t.castSucc.val = t.val := rfl
  have e1 : t.succ.val = t.val + 1 := rfl
  rw [e0, e1]
  iintro ⟨⟨⟨%f, %hf, S0⟩, HR⟩, ⟨%V, %hW, HO⟩, W0, W1, W2, W3, W4, W5, W6, W7, W8⟩
  have hkeep0 : (rdat1 W R c).after 0 t (Y 0) (Y 0) := rfl
  have hkeep1 : (rdat1 W R c).after 1 t (Y 1) (Y 1) := rfl
  have hkeep2 : (rdat1 W R c).after 2 t (Y 2) (Y 2) := rfl
  have hkeep3 : (rdat1 W R c).after 3 t (Y 3) (Y 3) := rfl
  have hkeep4 : (rdat1 W R c).after 4 t (Y 4) (Y 4) := rfl
  have hkeep5 : (rdat1 W R c).after 5 t (Y 5) (Y 5) := rfl
  have hkeep6 : (rdat1 W R c).after 6 t (Y 6) (Y 6) := rfl
  have hkeep7 : (rdat1 W R c).after 7 t (Y 7) (Y 7) := rfl
  by_cases h8 : t.val = 8
  · have hA : ¬ (Scalar.cmpi .ne (Scalar.extui (Scalar.cmpi .slt (BitVec.ofNat 32 (grid1.coords t 0).val) 8#32)) 0#32 = 1#1) := fun h => by have := (condA1 t).mp h; omega
    have hD := (condD1 t).mpr h8
    have ef : f = accV W 7 := by
      have := hf (by omega)
      rw [h8] at this
      exact this
    subst ef
    iapply (lastRun (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (Y 6) (Y 7) c (grid1.coords t) hA hD (accV W 7) (Y 8))
    isplitl [S0]; · iexact S0
    isplitl [W6]; · iexact W6
    isplitl [W7]; · iexact W7
    isplitl [W8]; · iexact W8
    iintro ⟨S0, W6, W7, W8⟩
    have hk8 : (rdat1 W R c).after 8 t (Y 8) (k1_pay3 (accV W 7) (Y 6) (Y 7)) := fun _ => by
      show k1_pay3 (accV W 7) (Y 6) (Y 7) = yV W
      rw [y6, y7]
    isplitl [S0 HR]
    · isplitl [S0]
      · iexists _; isplitr; swap; (· iexact S0); ipureintro
        intro _; rw [h8]; rfl
      iexact HR
    isplitl [HO]
    · iexists V; isplitr; · ipureintro; exact fun _ _ => Or.inl trivial
      iexact HO
    isplitl [W0]; · iexists _; isplitr; swap; (· iexact W0); ipureintro; exact hkeep0
    isplitl [W1]; · iexists _; isplitr; swap; (· iexact W1); ipureintro; exact hkeep1
    isplitl [W2]; · iexists _; isplitr; swap; (· iexact W2); ipureintro; exact hkeep2
    isplitl [W3]; · iexists _; isplitr; swap; (· iexact W3); ipureintro; exact hkeep3
    isplitl [W4]; · iexists _; isplitr; swap; (· iexact W4); ipureintro; exact hkeep4
    isplitl [W5]; · iexists _; isplitr; swap; (· iexact W5); ipureintro; exact hkeep5
    isplitl [W6]; · iexists _; isplitr; swap; (· iexact W6); ipureintro; exact hkeep6
    isplitl [W7]; · iexists _; isplitr; swap; (· iexact W7); ipureintro; exact hkeep7
    iexists _; isplitr; swap; (· iexact W8); ipureintro; exact hk8
  have hA := (condA1 t).mpr (by omega)
  have hD : ¬ k1_cond4 (grid1.coords t) = 1#1 := fun h => h8 ((condD1 t).mp h)
  have hk8 : (rdat1 W R c).after 8 t (Y 8) (Y 8) := fun h => absurd (h : t.val = 8) h8
  by_cases hz : t.val = 0
  · have hB := (condB1 t).mpr hz
    have hC : ¬ (Scalar.cmpi .ne (Scalar.extui (Scalar.cmpi .sgt (BitVec.ofNat 32 (grid1.coords t 0).val) 0#32)) 0#32 = 1#1) := fun h => by have := (condC1 t).mp h; omega
    iapply (firstRun (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (Y 0) (Y 1) (Y 2) (Y 3) (Y 4) (Y 5) c (grid1.coords t) hA hB hC hD f)
    isplitl [S0]; · iexact S0
    isplitl [W0 W1 W2 W3 W4 W5]
    · unfold owned05
      isplitl [W0]; · iexact W0
      isplitl [W1]; · iexact W1
      isplitl [W2]; · iexact W2
      isplitl [W3]; · iexact W3
      isplitl [W4]; · iexact W4
      iexact W5
    unfold owned05
    iintro ⟨S0, ⟨W0, W1, W2, W3, W4, W5⟩⟩
    isplitl [S0 HR]
    · isplitl [S0]
      · iexists _; isplitr; swap; (· iexact S0); ipureintro
        intro _; rw [eX, y0, hz]; rfl
      iexact HR
    isplitl [HO]
    · iexists V; isplitr; · ipureintro; exact fun _ _ => Or.inl trivial
      iexact HO
    isplitl [W0]; · iexists _; isplitr; swap; (· iexact W0); ipureintro; exact hkeep0
    isplitl [W1]; · iexists _; isplitr; swap; (· iexact W1); ipureintro; exact hkeep1
    isplitl [W2]; · iexists _; isplitr; swap; (· iexact W2); ipureintro; exact hkeep2
    isplitl [W3]; · iexists _; isplitr; swap; (· iexact W3); ipureintro; exact hkeep3
    isplitl [W4]; · iexists _; isplitr; swap; (· iexact W4); ipureintro; exact hkeep4
    isplitl [W5]; · iexists _; isplitr; swap; (· iexact W5); ipureintro; exact hkeep5
    isplitl [W6]; · iexists _; isplitr; swap; (· iexact W6); ipureintro; exact hkeep6
    isplitl [W7]; · iexists _; isplitr; swap; (· iexact W7); ipureintro; exact hkeep7
    iexists _; isplitr; swap; (· iexact W8); ipureintro; exact hk8
  · have hB : ¬ (Scalar.cmpi .ne (Scalar.extui (Scalar.cmpi .eq (BitVec.ofNat 32 (grid1.coords t 0).val) 0#32)) 0#32 = 1#1) := fun h => hz ((condB1 t).mp h)
    have hC := (condC1 t).mpr (by omega)
    have ef := hf hz
    subst ef
    iapply (nextRun (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (Y 0) (Y 1) (Y 2) (Y 3) (Y 4) (Y 5) c (grid1.coords t) hA hB hC hD (accV W (min (t.val - 1) 7)))
    isplitl [S0]; · iexact S0
    isplitl [W0 W1 W2 W3 W4 W5]
    · unfold owned05
      isplitl [W0]; · iexact W0
      isplitl [W1]; · iexact W1
      isplitl [W2]; · iexact W2
      isplitl [W3]; · iexact W3
      isplitl [W4]; · iexact W4
      iexact W5
    unfold owned05
    iintro ⟨S0, ⟨W0, W1, W2, W3, W4, W5⟩⟩
    isplitl [S0 HR]
    · isplitl [S0]
      · iexists _; isplitr; swap; (· iexact S0); ipureintro
        intro _
        rw [eX]
        obtain ⟨n, hn⟩ : ∃ n, t.val = n + 1 := ⟨t.val - 1, by omega⟩
        rw [hn, show min (n + 1 - 1) 7 = n by omega, show min (n + 1 + 1 - 1) 7 = n + 1 by omega]
        rfl
      iexact HR
    isplitl [HO]
    · iexists V; isplitr; · ipureintro; exact fun _ _ => Or.inl trivial
      iexact HO
    isplitl [W0]; · iexists _; isplitr; swap; (· iexact W0); ipureintro; exact hkeep0
    isplitl [W1]; · iexists _; isplitr; swap; (· iexact W1); ipureintro; exact hkeep1
    isplitl [W2]; · iexists _; isplitr; swap; (· iexact W2); ipureintro; exact hkeep2
    isplitl [W3]; · iexists _; isplitr; swap; (· iexact W3); ipureintro; exact hkeep3
    isplitl [W4]; · iexists _; isplitr; swap; (· iexact W4); ipureintro; exact hkeep4
    isplitl [W5]; · iexists _; isplitr; swap; (· iexact W5); ipureintro; exact hkeep5
    isplitl [W6]; · iexists _; isplitr; swap; (· iexact W6); ipureintro; exact hkeep6
    isplitl [W7]; · iexists _; isplitr; swap; (· iexact W7); ipureintro; exact hkeep7
    iexists _; isplitr; swap; (· iexact W8); ipureintro; exact hk8

end

end Cert.Proof.KI

end
-- ==== Proof.RegionRec.lean ====
/- A region's record from its body obligation: the arrays read off one valuation, left at another. -/
module

public import proofs.«01_k».proof.Proof.Region0
public import proofs.«01_k».proof.Proof.Region1

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [Named F]

local notation "𝕄" => MT nD τ sig Unit (Elt F) ℕ (UU nD τ) ℕ

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers: the core's `owes`. -/
abbrev Ow (c : Dev nD) : sProp 𝕄 := iprop(∃ W, owes (c : Thread nD τ) (0 : CellTallies nD τ sig Unit) W)

/-- The regions' proof data as one family. -/
abbrev Fam : Type := (p : Fin 2) → (c : Dev nD) → RDat τ (Elt F) Unit ℕ (UU nD τ) ℕ (Pipeline.pin (pcfgs (F := F)) adm p) c

/-- The windows' arrays at contents the write-backs determine. -/
theorem arraysAt_exact {cfg : Pipeline.Cfg sig Λ₀} {c : Dev nD} (rd : RDat τ (Elt F) Unit ℕ (UU nD τ) ℕ cfg c) (n : ℕ)
    (G : (w : Fin cfg.W) → Buf (Elt F) ((cfg.win w).arr.view.loc (c.tc : Thread nD τ))) (h : ∀ w G', rd.ArrAt w n G' → G' = G w) :
    (rd.arraysAt n : sProp 𝕄) ⊢ rd.arrays G := by
  unfold RDat.arraysAt RDat.arrays
  exact bigSep_mono fun w _ => (show iprop(∃ G', ⌜rd.ArrAt w n G'⌝ ∗ (cfg.win w).arr.view.loc (c.tc : Thread nD τ) ↦[(cfg.win w).arr.view.set]{rd.share w} G')
      ⊢ ((cfg.win w).arr.view.loc (c.tc : Thread nD τ) ↦[(cfg.win w).arr.view.set]{rd.share w} G w : sProp 𝕄) from by
    iintro ⟨%G', %hG, H⟩
    rw [h w G' hG]
    iexact H)

section

variable (rdats : Fam (F := F)) (p : Fin 2) (kit : Pipeline.LaunchFacts (nD := nD) (τ := τ) cfgs p)
  {K : Type} [Fintype K] (osm : K → SemLoc sig) (ho : Pipeline.OwnSemFacts (cfgs p).spec osm)
  (hbody : ∀ c, (rdats p c).BodyObligation defs₀ 𝒱₀ () Set.univ)
  (howed : ∀ c t, (rdats p c).owed t = 0) (hrec : ∀ c t, (rdats p c).recorded t = Set.univ) (hshare : ∀ c w, (rdats p c).share w = fullShare)
  (W W' : Dev nD → Valuation τ sig (Elt F))
  (hA : ∀ c w, (rdats p c).A w = W c (Proc.devRef .tc (Pipeline.arrRef (cfgs p).spec w)))
  (hex : ∀ c w G, (rdats p c).ArrAt w (cfgs p).N G → G = W' c (Proc.devRef .tc (Pipeline.arrRef (cfgs p).spec w)))
  (hoff : ∀ c (b : Ref sig .tc), (∀ w, Pipeline.arrRef (cfgs p).spec w ≠ b) → W' c b = W c b)
  (hin : ∀ c : Dev nD, iprop(Pipeline.ownSems0 osm c ∗ Pipeline.unscopedRest (cfgs p).spec c (fun b => W c b) ∗ Pipeline.scopedRest (cfgs p).spec c) ⊢ (rdats p c).Φ 0)
  (hout : ∀ c : Dev nD, (rdats p c).Φ (Fin.last _) ⊢ iprop(Pipeline.unscopedRest (cfgs p).spec c (fun b => W c b) ∗ Pipeline.ownSems0 osm c ∗ Pipeline.scopedRest (cfgs p).spec c))

set_option backward.isDefEq.respectTransparency.types false in
/-- The record: entered with the unscoped buffers at `W`, left with them at `W'`. -/
def mkRegion : Pipeline.RDat.RegionSeg (pcfgs (F := F)) adm rdats () defs₀ 𝒱₀ L lv p where
  win := kit.win.to₀
  block_pos := kit.block_pos
  stage_whole := kit.stage_whole
  K := K
  osem := osm
  ho := ho
  hbody := hbody
  hwaits c := Pipeline.RDat.hwaits_of_owed_zero (pcfgs (F := F)) adm rdats () L lv p howed c
  pre c := iprop(StableHlo.held (c : Thread nD τ) (Pipeline.ucRefs τ sig) (W c) ∗ Ow c)
  post c := iprop(StableHlo.held (c : Thread nD τ) (Pipeline.ucRefs τ sig) (W' c) ∗ Ow c)
  X c := iprop(Pipeline.ownSems0 osm c ∗ Pipeline.unscopedRest (cfgs p).spec c (fun b => W c b))
  Y c := Pipeline.unscopedRest (cfgs p).spec c (fun b => W c b)
  Z c := iprop(emp)
  hentry c := by
    have hsplit := Pipeline.RDat.arrays_of_unscopedBufs (pcfgs (F := F)) adm rdats kit.win kit.arr_whole c (hshare c) (fun b => W c b) (hA c)
    rw [← Pipeline.unscopedBufs_held (Ix := Unit) (Name := ℕ) (U := UU nD τ) (Lvl := ℕ) c (W c)]
    unfold Pipeline.prefHeld
    rw [show (Finset.univ : Finset (Fin (pcfgs (F := F) p).pre.K)) = ∅ from rfl, bigSep_empty]
    iintro ⟨⟨Hub, HO⟩, Hos, -⟩
    ihave H := hsplit $$ Hub
    icases H with ⟨Ha, Hr⟩
    imodintro
    isplitl [Ha]; · iexact Ha
    isplitr; · iempintro
    isplitl [HO]
    · unfold RDat.owesAt Pipeline.owesWithin RDat.bound
      rw [howed c 0, hrec c]
      icases HO with ⟨%V, HO⟩; iexists V; isplitr; · ipureintro; exact fun _ _ => Or.inl trivial
      iexact HO
    isplitl [Hos Hr]
    · isplitl [Hos] <;> iassumption
    iempintro
  hin c := by
    refine (show _ ⊢ iprop(Pipeline.ownSems0 osm c ∗ Pipeline.unscopedRest (cfgs p).spec c (fun b => W c b) ∗ Pipeline.scopedRest (cfgs p).spec c) from ?_).trans (hin c)
    iintro ⟨⟨Hos, Hr⟩, -, Hs⟩
    isplitl [Hos]; · iexact Hos
    isplitl [Hr] <;> iassumption
  hout := hout
  hexit c := by
    have ha := arraysAt_exact (rdats p c) (cfgs p).N (fun w => W' c (Proc.devRef .tc (Pipeline.arrRef (cfgs p).spec w))) (hex c)
    rw [Pipeline.RDat.arrays_eq (pcfgs (F := F)) adm rdats p c kit.arr_whole (hshare c)] at ha
    have hr : (Pipeline.unscopedRest (cfgs p).spec c (fun b => W c b) : sProp 𝕄) = Pipeline.unscopedRest (cfgs p).spec c (fun b => W' c b) := by
      unfold Pipeline.unscopedRest
      refine bigSep_congr fun b hb => ?_
      dsimp only
      rw [hoff c b fun w hw => (Finset.mem_sdiff.mp hb).2 (Finset.mem_image.mpr ⟨w, Finset.mem_univ _, hw⟩)]
    rw [← Pipeline.unscopedBufs_held (Ix := Unit) (Name := ℕ) (U := UU nD τ) (Lvl := ℕ) c (W' c),
      Pipeline.unscopedBufs_split (Pipeline.pin (pcfgs (F := F)) adm) p kit.win.arr_unscoped kit.win.arr_inj c (fun b => W' c b), hr]
    iintro ⟨Ha, HO, HY, -⟩
    ihave Ha := ha $$ Ha
    imodintro
    isplitl [Ha HY]
    · isplitl [Ha]; · iexact Ha
      iexact HY
    unfold RDat.owesAt Pipeline.owesWithin
    rw [howed c (Fin.last _)]
    icases HO with ⟨%V, -, HO⟩; iexists V; iexact HO

end

end Cert.Proof.KI

end
-- ==== Proof.Run.lean ====
/- The run of the idealized kernel: the two regions' records over one family of proof data, and what the program leaves in memory. -/
module

public import proofs.«01_k».proof.Proof.RegionRec
public import Idealize.ShloMosaic.Lib.Pipeline.ArrRel

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [Named F]

local notation "𝕄" => MT nD τ sig Unit (Elt F) ℕ (UU nD τ) ℕ

/-- The four operands the first region copies from main memory itself. -/
abbrev ops0 : List (Ref sig .tc) := [main_call0_v0, main_call0_v2, main_call0_v7, main_call0_v8]

/-- The first region's scratch buffers. -/
abbrev scr0 : List (Ref sig .tc) := [cc0_scratch0, cc0_scratch1, cc0_scratch2, cc0_scratch3, cc0_scoped0]

/-- What rides beside the first region unopened. -/
def rest0 (W : Valuation τ sig (Elt F)) (c : Dev nD) : sProp 𝕄 :=
  iprop(Pipeline.scopedRestBut spec0 c scr0
    ∗ bigSep (((Finset.univ.filter fun b : Ref sig .tc => ¬ b.isScoped) \ Finset.univ.image (Pipeline.arrRef spec0)) \ ops0.toFinset)
      fun b => ((c.tc : Thread nD τ).loc b) ↦{fullShare} W b)

/-- What rides beside the second region unopened. -/
def rest1 (W : Valuation τ sig (Elt F)) (c : Dev nD) : sProp 𝕄 :=
  iprop(Pipeline.scopedRestBut spec1 c [cc1_scratch0] ∗ Pipeline.unscopedRest spec1 c (fun b => W b))

theorem sepL_cons {I : Type} (i j : I) (l : List I) (Φ : I → sProp 𝕄) : bigSepL (i :: j :: l) Φ = iprop(Φ i ∗ bigSepL (j :: l) Φ) := rfl

/-- The first region's whole entry resources, its own buffers drawn out. -/
theorem split0 (W : Valuation τ sig (Elt F)) (c : Dev nD) :
    (iprop(Pipeline.unscopedRest spec0 c (fun b => W b) ∗ Pipeline.scopedRest spec0 c) : sProp 𝕄)
      = iprop((bigSepL ops0 (fun b => ((c.tc : Thread nD τ).loc b) ↦{fullShare} W b)
          ∗ bigSep (((Finset.univ.filter fun b : Ref sig .tc => ¬ b.isScoped) \ Finset.univ.image (Pipeline.arrRef spec0)) \ ops0.toFinset)
            fun b => ((c.tc : Thread nD τ).loc b) ↦{fullShare} W b)
        ∗ bigSepL scr0 (fun b => iprop(∃ f : Buf (Elt F) ((c.tc : Thread nD τ).loc b), ((c.tc : Thread nD τ).loc b) ↦{fullShare} f))
          ∗ Pipeline.scopedRestBut spec0 c scr0) := by
  rw [Pipeline.scopedRest_split_of_list spec0 c scr0 (by decide) (by decide)]
  unfold Pipeline.unscopedRest
  rw [BI.bigSep_sdiff_split (s := (Finset.univ.filter fun b : Ref sig .tc => ¬ b.isScoped) \ Finset.univ.image (Pipeline.arrRef spec0)) (t := ops0.toFinset) (by decide),
    bigSep_eq_bigSepL_of_eq ops0 rfl (by decide)]
  rfl

theorem hin0 (W : Valuation τ sig (Elt F)) (c : Dev nD) :
    (iprop(Pipeline.ownSems0 osem c ∗ Pipeline.unscopedRest spec0 c (fun b => W b) ∗ Pipeline.scopedRest spec0 c) : sProp 𝕄) ⊢ (rdat0 W (rest0 W c) c).Φ 0 := by
  rw [split0, Pipeline.ownSems0_eq_of_list c osem [0] (by decide) (by decide)]
  rw [show (rdat0 W (rest0 W c) c).Φ 0 = iprop(Φ0 W c 0 ∗ rest0 W c) from rfl]
  unfold Φ0 rest0
  simp only [sepL_cons, bigSepL_singleton]
  iintro ⟨Hs, ⟨⟨G0, G1, G2, G3⟩, Hu⟩, ⟨⟨%f0, S0⟩, ⟨%f1, S1⟩, ⟨%f2, S2⟩, ⟨%f3, S3⟩, ⟨%f4, S4⟩⟩, Hb⟩
  isplitr [Hu Hb]
  · isplitl [S0 S1 S2 S3]
    · iexists f0, f1, f2, f3
      isplitr; · ipureintro; exact fun h => absurd rfl h
      isplitl [S0]; · iexact S0
      isplitl [S1]; · iexact S1
      isplitl [S2]; · iexact S2
      iexact S3
    isplitl [S4]; · iexists f4; iexact S4
    isplitl [Hs]; · iexact Hs
    isplitl [G0]; · iexact G0
    isplitl [G1]; · iexact G1
    isplitl [G2]; · iexact G2
    iexact G3
  · isplitl [Hb]; · iexact Hb
    iexact Hu

theorem hout0 (W : Valuation τ sig (Elt F)) (c : Dev nD) :
    (rdat0 W (rest0 W c) c).Φ (Fin.last _) ⊢ (iprop(Pipeline.unscopedRest spec0 c (fun b => W b) ∗ Pipeline.ownSems0 osem c ∗ Pipeline.scopedRest spec0 c) : sProp 𝕄) := by
  have hs := split0 W c
  have h : (iprop(Pipeline.ownSems0 osem c ∗ Pipeline.unscopedRest spec0 c (fun b => W b) ∗ Pipeline.scopedRest spec0 c) : sProp 𝕄)
      ⊢ iprop(Pipeline.unscopedRest spec0 c (fun b => W b) ∗ Pipeline.ownSems0 osem c ∗ Pipeline.scopedRest spec0 c) := by
    iintro ⟨H1, H2, H3⟩
    isplitl [H2]; · iexact H2
    isplitl [H1] <;> iassumption
  refine BIBase.Entails.trans ?_ h
  rw [hs, Pipeline.ownSems0_eq_of_list c osem [0] (by decide) (by decide)]
  rw [show (rdat0 W (rest0 W c) c).Φ (Fin.last _) = iprop(Φ0 W c (Fin.last _) ∗ rest0 W c) from rfl]
  unfold Φ0 rest0
  simp only [sepL_cons, bigSepL_singleton]
  iintro ⟨⟨⟨%f0, %f1, %f2, %f3, -, S0, S1, S2, S3⟩, ⟨%f4, S4⟩, Hs, G0, G1, G2, G3⟩, Hb, Hu⟩
  isplitl [Hs]; · iexact Hs
  isplitl [G0 G1 G2 G3 Hu]
  · isplitr [Hu]
    · isplitl [G0]; · iexact G0
      isplitl [G1]; · iexact G1
      isplitl [G2]; · iexact G2
      iexact G3
    iexact Hu
  isplitr [Hb]
  · isplitl [S0]; · iexists f0; iexact S0
    isplitl [S1]; · iexists f1; iexact S1
    isplitl [S2]; · iexists f2; iexact S2
    isplitl [S3]; · iexists f3; iexact S3
    iexists f4; iexact S4
  iexact Hb

/-- The second region has no semaphore of its own. -/
abbrev osem1 : Fin 0 → SemLoc sig := Fin.elim0

theorem split1 (c : Dev nD) : (Pipeline.scopedRest spec1 c : sProp 𝕄)
    = iprop((∃ f : Buf (Elt F) ((c.tc : Thread nD τ).loc cc1_scratch0), ((c.tc : Thread nD τ).loc cc1_scratch0) ↦{fullShare} f) ∗ Pipeline.scopedRestBut spec1 c [cc1_scratch0]) :=
  Pipeline.scopedRest_split_of_list spec1 c [cc1_scratch0] (by decide) (by decide)

theorem hin1 (W : Valuation τ sig (Elt F)) (c : Dev nD) :
    (iprop(Pipeline.ownSems0 osem1 c ∗ Pipeline.unscopedRest spec1 c (fun b => W b) ∗ Pipeline.scopedRest spec1 c) : sProp 𝕄) ⊢ (rdat1 W (rest1 W c) c).Φ 0 := by
  rw [split1]
  rw [show (rdat1 W (rest1 W c) c).Φ 0 = iprop(Φ1 W c 0 ∗ rest1 W c) from rfl]
  unfold Φ1 rest1
  iintro ⟨-, Hu, ⟨%f, S⟩, Hb⟩
  isplitl [S]
  · iexists f
    isplitr; · ipureintro; exact fun h => absurd rfl h
    iexact S
  isplitl [Hb]; · iexact Hb
  iexact Hu

theorem hout1 (W : Valuation τ sig (Elt F)) (c : Dev nD) :
    (rdat1 W (rest1 W c) c).Φ (Fin.last _) ⊢ (iprop(Pipeline.unscopedRest spec1 c (fun b => W b) ∗ Pipeline.ownSems0 osem1 c ∗ Pipeline.scopedRest spec1 c) : sProp 𝕄) := by
  rw [split1]
  rw [show (rdat1 W (rest1 W c) c).Φ (Fin.last _) = iprop(Φ1 W c (Fin.last _) ∗ rest1 W c) from rfl]
  unfold Φ1 rest1 Pipeline.ownSems0
  rw [show (Finset.univ : Finset (Fin 0)) = ∅ from rfl, bigSep_empty]
  iintro ⟨⟨%f, -, S⟩, Hb, Hu⟩
  isplitl [Hu]; · iexact Hu
  isplitr; · iempintro
  isplitl [S]; · iexists f; iexact S
  iexact Hb

/-! ## What the output windows' arrays hold at the end -/

theorem leaves_eq {Λ₀ : Labels} {cfg : Pipeline.Cfg sig Λ₀} {c : Dev nD} (rd : RDat τ (Elt F) Unit ℕ (UU nD τ) ℕ cfg c) (w : Fin cfg.W) (t : Fin cfg.N)
    (v : (cfg.win w).block.Idx → Elt F (cfg.win w).elt) (h : ∀ Y X, rd.after w t Y X → X = v) (X : (cfg.win w).block.Idx → Elt F (cfg.win w).elt)
    (hX : rd.Leaves w t X) : X = v := by
  obtain ⟨Y, -, hY⟩ := hX
  exact h Y X hY

theorem end_h (W : Valuation τ sig (Elt F)) (R : sProp 𝕄) (c : Dev nD) (G) (h : (rdat0 W R c).ArrAt 3 cfg0.N G) : G = hV W := by
  have hw : (cfg0.win 3).WholeAt (⟨9, by decide⟩ : Fin cfg0.N) := by decide +kernel
  obtain ⟨X, hX, e⟩ := h.emb_eq_of_wholeAt hw
  have hx : X = hV W := leaves_eq (rdat0 W R c) 3 _ (hV W) (fun Y X h => by
    have h : (if (9 : ℕ) = 9 then (X : Vec F S2048x768 .f32) = hV W else ∀ j : S2048x768.Idx, (j 0).val < 256 * 9 → X j = attV W j) := h
    rwa [if_pos rfl] at h) X hX
  funext j
  rw [hx] at e
  exact e j

theorem end_g (W : Valuation τ sig (Elt F)) (R : sProp 𝕄) (c : Dev nD) (G) (h : (rdat0 W R c).ArrAt 4 cfg0.N G) : G = gateV W := by
  have hw : (cfg0.win 4).WholeAt (⟨9, by decide⟩ : Fin cfg0.N) := by decide +kernel
  obtain ⟨X, hX, e⟩ := h.emb_eq_of_wholeAt hw
  have hx : X = gateV W := leaves_eq (rdat0 W R c) 4 _ (gateV W) (fun Y X h => h rfl) X hX
  funext j
  rw [hx] at e
  exact (e j)

theorem end_y (W : Valuation τ sig (Elt F)) (R : sProp 𝕄) (c : Dev nD) (G) (h : (rdat1 W R c).ArrAt 8 cfg1.N G) : G = yV W := by
  have hw : (cfg1.win 8).WholeAt (⟨8, by decide⟩ : Fin cfg1.N) := by decide +kernel
  obtain ⟨X, hX, e⟩ := h.emb_eq_of_wholeAt hw
  have hx : X = yV W := leaves_eq (rdat1 W R c) 8 _ (yV W) (fun Y X h => h rfl) X hX
  funext j
  rw [hx] at e
  exact (e j)

/-! ## The buffers between the items -/

variable (m : (ℓ : Loc nD τ sig) → Buf (Elt F) ℓ)

/-- After the host operations before the regions. -/
abbrev w1 (c : Dev nD) : Valuation τ sig (Elt F) := V1 m c
/-- After the first region. -/
def w2 (c : Dev nD) : Valuation τ sig (Elt F) := Function.update (Function.update (w1 m c) main_call0_v16_0 (hV (w1 m c))) main_call0_v16_1 (gateV (w1 m c))
/-- After the second region. -/
def w3 (c : Dev nD) : Valuation τ sig (Elt F) := Function.update (w2 m c) main_call0_v17 (yV (w2 m c))
/-- At the end. -/
abbrev w4 (c : Dev nD) : Valuation τ sig (Elt F) := StableHlo.after hostOps2 (w3 m c)

theorem w2_of (c : Dev nD) (r : Ref sig .tc) (h0 : r ≠ main_call0_v16_0) (h1 : r ≠ main_call0_v16_1) : w2 m c r = w1 m c r := by
  unfold w2
  rw [Function.update_of_ne (StableHlo.devRef_ne_of_ne h1), Function.update_of_ne (StableHlo.devRef_ne_of_ne h0)]

theorem w2_h (c : Dev nD) : w2 m c main_call0_v16_0 = hV (w1 m c) := by
  unfold w2
  rw [Function.update_of_ne (StableHlo.devRef_ne_of_ne (by decide)), Function.update_self]

theorem w2_g (c : Dev nD) : w2 m c main_call0_v16_1 = gateV (w1 m c) := by
  unfold w2
  rw [Function.update_self]

theorem w3_of (c : Dev nD) (r : Ref sig .tc) (h0 : r ≠ main_call0_v17) : w3 m c r = w2 m c r := by
  unfold w3
  rw [Function.update_of_ne (StableHlo.devRef_ne_of_ne h0)]

theorem w3_y (c : Dev nD) : w3 m c main_call0_v17 = yV (w2 m c) := by
  unfold w3
  rw [Function.update_self]

theorem w4_arg (c : Dev nD) (r : Ref sig .tc) (h : r ∉ hostOps0_W ∧ r ∉ hostOps2_W ∧ r ≠ main_call0_v16_0 ∧ r ≠ main_call0_v16_1 ∧ r ≠ main_call0_v17) :
    w4 m c r = m ((c.tc : Thread nD τ).loc r) :=
  (StableHlo.after_of_writes_sub hostOps2 _ hostOps2_writes h.2.1).trans <| (w3_of m c r h.2.2.2.2).trans <| (w2_of m c r h.2.2.1 h.2.2.2.1).trans <| V1_of m c r h.1

/-! ## The regions' records -/

/-- The regions' proof data. -/
def rdats : Fam (F := F)
  | 0 => fun c => rdat0 (w1 m c) (rest0 (w1 m c) c) c
  | 1 => fun c => rdat1 (w2 m c) (rest1 (w2 m c) c) c

/-- An input window's array is at the end what it was at the start. -/
theorem in_eq {Λ₀ : Labels} {cfg : Pipeline.Cfg sig Λ₀} {c : Dev nD} (rd : RDat τ (Elt F) Unit ℕ (UU nD τ) ℕ cfg c) (w : Fin cfg.W) (hw : (cfg.win w).isOut = false) (n : ℕ)
    (G : Buf (Elt F) ((cfg.win w).arr.view.loc (c.tc : Thread nD τ))) (h : rd.ArrAt w n G) : G = rd.A w := by
  rw [RDat.ArrAt_in rd w hw] at h
  exact h

theorem hex0 (c : Dev nD) (w : Fin cfg0.W) (G) (h : (rdat0 (w1 m c) (rest0 (w1 m c) c) c).ArrAt w cfg0.N G) : G = w2 m c (Proc.devRef .tc (Pipeline.arrRef spec0 w)) := by
  match w, G, h with
  | 0, G, h => exact (in_eq _ _ rfl _ G h).trans (w2_of m c (Pipeline.arrRef spec0 0) (by decide) (by decide)).symm
  | 1, G, h => exact (in_eq _ _ rfl _ G h).trans (w2_of m c (Pipeline.arrRef spec0 1) (by decide) (by decide)).symm
  | 2, G, h => exact (in_eq _ _ rfl _ G h).trans (w2_of m c (Pipeline.arrRef spec0 2) (by decide) (by decide)).symm
  | 3, G, h => exact (end_h _ _ c G h).trans (w2_h m c).symm
  | 4, G, h => exact (end_g _ _ c G h).trans (w2_g m c).symm

set_option maxHeartbeats 4000000 in
theorem hex1 (c : Dev nD) (w : Fin cfg1.W) (G) (h : (rdat1 (w2 m c) (rest1 (w2 m c) c) c).ArrAt w cfg1.N G) : G = w3 m c (Proc.devRef .tc (Pipeline.arrRef spec1 w)) := by
  match w, G, h with
  | 0, G, h => exact (in_eq _ _ rfl _ G h).trans (w3_of m c (Pipeline.arrRef spec1 0) (by decide)).symm
  | 1, G, h => exact (in_eq _ _ rfl _ G h).trans (w3_of m c (Pipeline.arrRef spec1 1) (by decide)).symm
  | 2, G, h => exact (in_eq _ _ rfl _ G h).trans (w3_of m c (Pipeline.arrRef spec1 2) (by decide)).symm
  | 3, G, h => exact (in_eq _ _ rfl _ G h).trans (w3_of m c (Pipeline.arrRef spec1 3) (by decide)).symm
  | 4, G, h => exact (in_eq _ _ rfl _ G h).trans (w3_of m c (Pipeline.arrRef spec1 4) (by decide)).symm
  | 5, G, h => exact (in_eq _ _ rfl _ G h).trans (w3_of m c (Pipeline.arrRef spec1 5) (by decide)).symm
  | 6, G, h => exact (in_eq _ _ rfl _ G h).trans (w3_of m c (Pipeline.arrRef spec1 6) (by decide)).symm
  | 7, G, h => exact (in_eq _ _ rfl _ G h).trans (w3_of m c (Pipeline.arrRef spec1 7) (by decide)).symm
  | 8, G, h => exact (end_y _ _ c G h).trans (w3_y m c).symm

set_option backward.isDefEq.respectTransparency.types false in
/-- The first region's record. -/
def reg0 : Pipeline.RDat.RegionSeg (pcfgs (F := F)) adm (rdats m) () defs₀ 𝒱₀ L lv 0 :=
  mkRegion (rdats m) 0 launch0 osem (by decide) (fun c => body0 (w1 m c) _ c) (fun _ _ => rfl) (fun _ _ => rfl)
    (fun c w => RDat.share_full _ (fun _ => rfl) w) (w1 m) (w2 m) (fun _ _ => rfl) (fun c w G h => hex0 m c w G h)
    (fun c b hb => w2_of m c b (hb 3).symm (hb 4).symm) (fun c => hin0 (w1 m c) c) (fun c => hout0 (w1 m c) c)

set_option backward.isDefEq.respectTransparency.types false in
/-- The second region's record. -/
def reg1 : Pipeline.RDat.RegionSeg (pcfgs (F := F)) adm (rdats m) () defs₀ 𝒱₀ L lv 1 :=
  mkRegion (rdats m) 1 launch1 osem1 (by decide) (fun c => body1 (w2 m c) _ c) (fun _ _ => rfl) (fun _ _ => rfl)
    (fun c w => RDat.share_full _ (fun _ => rfl) w) (w2 m) (w3 m) (fun _ _ => rfl) (fun c w G h => hex1 m c w G h)
    (fun c b hb => w3_of m c b (hb 8).symm) (fun c => hin1 (w2 m c) c) (fun c => hout1 (w2 m c) c)

/-- The host operations before the regions, as a segment. -/
def hseg0 : Pipeline.HostSeg (Ix := Unit) (Name := ℕ) (U := UU nD τ) (Lvl := ℕ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (Ow (F := F))

/-- The host operations after the regions, as a segment. -/
def hseg3 : Pipeline.HostSeg (Ix := Unit) (Name := ℕ) (U := UU nD τ) (Lvl := ℕ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (w3 m) (Ow (F := F))

/-- The program's items on each core. -/
abbrev items (_ : Dev nD) : List (Pipeline.RDat.Seg (pcfgs (F := F)) adm (rdats m) () defs₀ 𝒱₀ L lv) :=
  [.host (hseg0 m), .region (reg0 m), .region (reg1 m), .host (hseg3 m)]

/-- The launch element: the pipelines' cells beside the counters at one. -/
def u₀ : UU nD τ := (initOf (Pipeline.cells cfgs cellOf_inj) (Pipeline.launchToks cfgs cellOf_inj), 1)

theorem launch_own : (ownU u₀ : sProp 𝕄) ⊢ |={Set.univ}=> iprop(BI.own ((embL : Emb (URounds (GSem nD τ sig) Unit) 𝕄)
      (initOf (Pipeline.cells cfgs cellOf_inj) (Pipeline.launchToks cfgs cellOf_inj))) ∗ bigSep Finset.univ fun _ : Dev nD => (BI.emp : sProp 𝕄)) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

set_option backward.isDefEq.respectTransparency.types false in
/-- Every fair execution ends, every argument as launched, every semaphore at zero, the result the one the regions compute. -/
theorem run (ρ : Dev nD → PrngReg) :
    θ_run defs (onTc (τ := τ) (main (F := F))) ⟨m, fun _ => 0, ρ⟩ (fun r => (∀ c : Dev nD,
      (r.2.mem ((c.tc : Thread nD τ).loc main_v0) = w4 m c main_v0) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) := by
  refine Pipeline.RDat.θ_run_regions_kit_dev_sems (pcfgs (F := F)) adm (rdats m) () cellOf_inj embL defs₀ 𝒱₀ L lv m ρ main
    (items m)
    (fun c Q => by
      rewrite [main_chain c, Pipeline.RDat.Seg.run_eq_chain,
        show (items m c).map Pipeline.RDat.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Pipeline.RDat.Seg.pipes_host, Pipeline.RDat.Seg.pipes_region, Pipeline.RDat.Seg.pipes_nil]; decide) (fun _ => 0) (fun _ _ => rfl) (fun _ => BI.emp) u₀ launch_own
    (T₀ := fun c => iprop(StableHlo.held (c : Thread nD τ) (Pipeline.ucRefs τ sig) (V0 m c) ∗ Ow c))
    (Tₙ := fun c => StableHlo.held (c : Thread nD τ) (Pipeline.ucRefs τ sig) (w4 m c))
    (hch := fun c => ⟨.rfl, .rfl, .rfl, .rfl, .rfl⟩)
    (hinit := ?_) (QY := fun c s => s.mem ((c.tc : Thread nD τ).loc main_v0) = w4 m c main_v0 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13))
    (hfin := fun c s' => ?_) (hQ := fun _ h hz => ⟨h, funext fun g => hz g (.inr (regions_no_unscoped g.2))⟩)
  · refine Pipeline.initEach L lv fun c => ?_
    rw [show unscopedBufs c (fun b => m ((c.tc : Thread nD τ).loc b)) = StableHlo.held c (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (w4 m c) s') $$ [Hh HSI]
    · isplitl [Hh] <;> iassumption
    icases Hr with ⟨%h, HSI⟩
    imodintro
    isplitr
    · ipureintro
      have hr : ∀ r : Ref sig .tc, ¬ r.isScoped → s'.mem.mem ((c.tc : Thread nD τ).loc r) = w4 m c r := fun r hs =>
        h (Proc.devRef .tc r) (Finset.mem_filter.mpr ⟨StableHlo.devRef_mem_tcRefs r, hs⟩)
      exact ⟨hr main_v0 (by decide), (hr main_arg0 (by decide)).trans (w4_arg m c main_arg0 (by decide)),
        (hr main_arg1 (by decide)).trans (w4_arg m c main_arg1 (by decide)),
        (hr main_arg2 (by decide)).trans (w4_arg m c main_arg2 (by decide)),
        (hr main_arg3 (by decide)).trans (w4_arg m c main_arg3 (by decide)),
        (hr main_arg4 (by decide)).trans (w4_arg m c main_arg4 (by decide)),
        (hr main_arg5 (by decide)).trans (w4_arg m c main_arg5 (by decide)),
        (hr main_arg6 (by decide)).trans (w4_arg m c main_arg6 (by decide)),
        (hr main_arg7 (by decide)).trans (w4_arg m c main_arg7 (by decide)),
        (hr main_arg8 (by decide)).trans (w4_arg m c main_arg8 (by decide)),
        (hr main_arg9 (by decide)).trans (w4_arg m c main_arg9 (by decide)),
        (hr main_arg10 (by decide)).trans (w4_arg m c main_arg10 (by decide)),
        (hr main_arg11 (by decide)).trans (w4_arg m c main_arg11 (by decide)),
        (hr main_arg12 (by decide)).trans (w4_arg m c main_arg12 (by decide)),
        (hr main_arg13 (by decide)).trans (w4_arg m c main_arg13 (by decide))⟩
    · iexact HSI

end Cert.Proof.KI

end
-- ==== Proof.Spec.lean ====
/- The layer as plain formulas over coordinates in the extended reals, in the kernel's form and in the
   reference's, and the laws that bring one form to the other. -/
module

public import Idealize.ShloMosaic.Lib.ValueIdx
public import Idealize.ShloMosaic.Lib.IdealHost
public import Idealize.ShloMosaic.Lib.SortFacts

@[expose] public section

noncomputable section

namespace Cert.Proof.Val

open Idealize.ShloMosaic

/-! ## Finite numbers -/

/-- A value that is a real number. -/
def Fin' (x : EReal) : Prop := ∃ r : ℝ, x = (r : EReal)

theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.sum {ι : Type} (s : Finset ι) {f : ι → EReal} (h : ∀ i, Fin' (f i)) : Fin' (∑ i ∈ s, f i) := by
  classical
  induction s using Finset.induction_on with
  | empty => exact ⟨0, by simp⟩
  | insert a s ha ih => rw [Finset.sum_insert ha]; exact (h a).add ih
theorem Fin'.ne_top {x : EReal} (hx : Fin' x) : x ≠ ⊤ := by obtain ⟨a, rfl⟩ := hx; exact EReal.coe_ne_top a
theorem Fin'.ne_bot {x : EReal} (hx : Fin' x) : x ≠ ⊥ := by obtain ⟨a, rfl⟩ := hx; exact EReal.coe_ne_bot a
theorem fin'_of {x : EReal} (h₁ : x ≠ ⊤) (h₂ : x ≠ ⊥) : Fin' x := ⟨x.toReal, (EReal.coe_toReal h₁ h₂).symm⟩

/-! ## One attention row -/

/-- The largest score of a row. -/
def peak {n : ℕ} (s : Fin n → EReal) : EReal := Finset.univ.fold max ⊥ s

theorem peak_mem {n : ℕ} (s : Fin (n + 1) → EReal) : ∃ i, peak s = s i := by
  obtain ⟨i, -, h⟩ := Finset.exists_mem_eq_sup (Finset.univ : Finset (Fin (n + 1))) ⟨0, Finset.mem_univ _⟩ s
  exact ⟨i, h⟩

theorem le_peak {n : ℕ} (s : Fin n → EReal) (i : Fin n) : s i ≤ peak s :=
  Finset.le_sup (f := s) (Finset.mem_univ i)

/-- The weight of a score before normalisation. -/
def wt {n : ℕ} (s : Fin n → EReal) (m : Fin n) : EReal := Ideal.exp (s m - peak s)

/-- A row's output as the kernel computes it: the weighted sum divided by the sum of the weights. -/
def headK {n : ℕ} (s v : Fin n → EReal) : EReal := Ideal.div (∑ m, wt s m * v m) (∑ m, wt s m)
/-- A row's output as the reference computes it: each weight divided first. -/
def headR {n : ℕ} (s v : Fin n → EReal) : EReal := ∑ m, Ideal.div (wt s m) (∑ m', wt s m') * v m

theorem mul_real_sum {n : ℕ} (r : ℝ) (hr : 0 ≤ r) (f : Fin n → EReal) : (∑ m, f m) * (r : EReal) = ∑ m, f m * (r : EReal) := by
  classical
  induction (Finset.univ : Finset (Fin n)) using Finset.induction_on with
  | empty => simp
  | insert a s ha ih =>
    rw [Finset.sum_insert ha, Finset.sum_insert ha, EReal.right_distrib_of_nonneg_of_ne_top (by exact_mod_cast hr) (EReal.coe_ne_top r), ih]

theorem wt_real {n : ℕ} (s : Fin (n + 1) → EReal) (h : ∀ m, Fin' (s m)) (m : Fin (n + 1)) : ∃ r : ℝ, 0 < r ∧ wt s m = (r : EReal) := by
  obtain ⟨i, hi⟩ := peak_mem s
  obtain ⟨a, ha⟩ := h m
  obtain ⟨b, hb⟩ := h i
  refine ⟨Real.exp (a - b), Real.exp_pos _, ?_⟩
  unfold wt
  rw [hi, ha, hb, ← EReal.coe_sub]
  rfl

theorem head_eq {n : ℕ} (s v : Fin (n + 1) → EReal) (h : ∀ m, Fin' (s m)) : headR s v = headK s v := by
  choose r hr he using wt_real s h
  have hs : (∑ m, wt s m) = ((∑ m, r m : ℝ) : EReal) := by
    rw [Finset.sum_congr rfl fun m _ => he m]
    exact (map_sum (⟨⟨fun a : ℝ => (a : EReal), EReal.coe_zero⟩, EReal.coe_add⟩ : ℝ →+ EReal) r Finset.univ).symm
  have hp : 0 < ∑ m, r m := Finset.sum_pos (fun m _ => hr m) ⟨0, Finset.mem_univ _⟩
  unfold headR headK
  rw [hs, Ideal.div_coe hp.ne', mul_real_sum _ (by positivity)]
  refine Finset.sum_congr rfl fun m _ => ?_
  rw [Ideal.div_coe hp.ne', mul_assoc, mul_assoc, mul_comm (v m)]

/-! ## Batch normalisation of one column -/

/-- The count, and the constant added to the variance. -/
abbrev cnt : EReal := Ideal.ofBits .f32 0x45000000#32
abbrev eps : EReal := Ideal.ofBits .f32 0x3727C5AC#32

theorem cnt_eq : cnt = ((2048 : ℝ) : EReal) := by
  simp [cnt, Ideal.ofBits, Ideal.ieee, -EReal.coe_mul]; norm_num
theorem eps_pos : ∃ r : ℝ, 0 < r ∧ eps = (r : EReal) := by
  refine ⟨_, ?_, by simp [eps, Ideal.ofBits, Ideal.ieee, -EReal.coe_mul]; rfl⟩
  positivity

def colMean (z : Fin 2048 → EReal) : EReal := Ideal.div (∑ t, z t) cnt
def dev (z : Fin 2048 → EReal) (t : Fin 2048) : EReal := z t - colMean z
def colVar (z : Fin 2048 → EReal) : EReal := Ideal.div (∑ t, dev z t * dev z t) cnt + eps
/-- The kernel's form: times the reciprocal square root. -/
def bn (z : Fin 2048 → EReal) (g b : EReal) (t : Fin 2048) : EReal := dev z t * Ideal.rsqrt (colVar z) * g + b
/-- The reference's form: divided by the square root. -/
def bnR (z : Fin 2048 → EReal) (g b : EReal) (t : Fin 2048) : EReal := Ideal.div (dev z t) (Ideal.sqrt (colVar z)) * g + b

theorem sq_nonneg' (a : EReal) : 0 ≤ a * a := by
  rcases le_total 0 a with h | h
  · exact mul_nonneg h h
  · have := mul_nonneg (EReal.neg_nonneg.mpr h) (EReal.neg_nonneg.mpr h)
    rwa [neg_mul_neg] at this

theorem var_nonneg (z : Fin 2048 → EReal) : 0 ≤ Ideal.div (∑ t, dev z t * dev z t) cnt := by
  rw [cnt_eq, Ideal.div_coe (by norm_num)]
  exact mul_nonneg (Finset.sum_nonneg fun t _ => sq_nonneg' _) (by exact_mod_cast (by norm_num : (0 : ℝ) ≤ 1 / 2048))

theorem colVar_cases (z : Fin 2048 → EReal) : colVar z = ⊤ ∨ ∃ r : ℝ, 0 < r ∧ colVar z = (r : EReal) := by
  obtain ⟨e, he, hE⟩ := eps_pos
  have h0 := var_nonneg z
  by_cases ht : Ideal.div (∑ t, dev z t * dev z t) cnt = ⊤
  · left; unfold colVar; rw [ht, hE]; exact EReal.top_add_coe e
  · right
    obtain ⟨r, hr⟩ := fin'_of ht (fun h => by rw [h] at h0; exact absurd h0 (by simp))
    rw [hr] at h0
    refine ⟨r + e, by have : (0 : ℝ) ≤ r := by exact_mod_cast h0
                      linarith, ?_⟩
    unfold colVar; rw [hr, hE, EReal.coe_add]

theorem bn_eq (z : Fin 2048 → EReal) (g b : EReal) (t : Fin 2048) : bnR z g b t = bn z g b t := by
  unfold bnR bn
  rcases colVar_cases z with h | ⟨r, hr, h⟩
  · rw [h]
    show Ideal.div _ ⊤ * g + b = dev z t * 0 * g + b
    unfold Ideal.div
    rw [if_neg (by simp), EReal.inv_top]
  · rw [h]
    have hs : Real.sqrt r ≠ 0 := (Real.sqrt_pos.mpr hr).ne'
    have e1 : Ideal.sqrt (r : EReal) = ((Real.sqrt r : ℝ) : EReal) := by
      show (if r < 0 then ⊥ else ((Real.sqrt r : ℝ) : EReal)) = _
      rw [if_neg (not_lt.mpr hr.le)]
    have e2 : Ideal.rsqrt (r : EReal) = (((Real.sqrt r)⁻¹ : ℝ) : EReal) := by
      rw [Ideal.rsqrt_coe, if_neg (not_lt.mpr hr.le), if_neg hr.ne']
    rw [e1, e2, Ideal.div_coe hs, one_div]

theorem bn_fin (z : Fin 2048 → EReal) (g b : EReal) (hg : Fin' g) (hb : Fin' b) (t : Fin 2048) : Fin' (bn z g b t) := by
  unfold bn
  refine Fin'.add (Fin'.mul ?_ hg) hb
  rcases colVar_cases z with h | ⟨r, hr, h⟩
  · rw [h]; exact ⟨0, by show dev z t * 0 = _; simp⟩
  · have e2 : Ideal.rsqrt (colVar z) = (((Real.sqrt r)⁻¹ : ℝ) : EReal) := by
      rw [h, Ideal.rsqrt_coe, if_neg (not_lt.mpr hr.le), if_neg hr.ne']
    rw [e2]
    refine Fin'.mul ?_ ⟨_, rfl⟩
    -- an infinite deviation would make the variance infinite
    by_contra hd
    have hsq : dev z t * dev z t = ⊤ := by
      rcases eq_or_ne (dev z t) ⊤ with e | e
      · rw [e]; rfl
      · rcases eq_or_ne (dev z t) ⊥ with e' | e'
        · rw [e']; rfl
        · exact absurd (fin'_of e e') hd
    have hsum : (∑ t, dev z t * dev z t) = ⊤ := by
      refine top_le_iff.mp (hsq ▸ ?_)
      exact Finset.single_le_sum (f := fun t => dev z t * dev z t) (fun i _ => sq_nonneg' _) (Finset.mem_univ t)
    have : colVar z = ⊤ := by
      obtain ⟨e, he, hE⟩ := eps_pos
      unfold colVar
      rw [hsum, cnt_eq, Ideal.div_coe (by norm_num), hE, EReal.top_mul_coe_of_pos (by norm_num)]
      exact EReal.top_add_coe e
    rw [h] at this
    exact EReal.coe_ne_top r this

/-! ## The two largest logits -/

/-- `a` comes before `b` among the logits: larger, or equal and earlier. -/
def Beats (l : Fin 8 → EReal) (a b : Fin 8) : Prop := l b < l a ∨ (l b = l a ∧ a < b)

/-- `i` is the first and `j` the second. -/
structure Top2 (l : Fin 8 → EReal) (i j : Fin 8) : Prop where
  ne : i ≠ j
  first : ∀ k, k ≠ i → Beats l i k
  second : ∀ k, k ≠ i → k ≠ j → Beats l j k

theorem Top2.le {l : Fin 8 → EReal} {i j : Fin 8} (h : Top2 l i j) (k : Fin 8) : l k ≤ l i := by
  rcases eq_or_ne k i with rfl | hk
  · exact le_rfl
  · rcases h.first k hk with h' | h'
    · exact h'.le
    · exact h'.1.le
theorem Top2.le2 {l : Fin 8 → EReal} {i j : Fin 8} (h : Top2 l i j) (k : Fin 8) (hk : k ≠ i) : l k ≤ l j := by
  rcases eq_or_ne k j with rfl | hk'
  · exact le_rfl
  · rcases h.second k hk hk' with h' | h'
    · exact h'.le
    · exact h'.1.le

/-- The unnormalised weight of the second, and the gate weight of an expert. -/
def e2 (l : Fin 8 → EReal) (i j : Fin 8) : EReal := Ideal.exp (l j - l i)
def gate (l : Fin 8 → EReal) (i j e : Fin 8) : EReal :=
  if e = i then Ideal.div 1 (1 + e2 l i j) else if e = j then Ideal.div (e2 l i j) (1 + e2 l i j) else 0

/-- The strict order the stable sort realises. -/
def before (l : Fin 8 → EReal) (a b : Fin 8) : Bool := decide (l b < l a)
open Classical in
def before' (l : Fin 8 → EReal) (a b : Fin 8) : Bool := decide (Beats l a b)

theorem stableSort_refine (l : Fin 8 → EReal) (L : List (Fin 8)) (hL : L.Pairwise (· < ·)) :
    stableSort (before l) L = stableSort (before' l) L := by
  induction L with
  | nil => rfl
  | cons a L ih =>
    rw [List.pairwise_cons] at hL
    unfold stableSort
    rw [ih hL.2]
    refine insertBefore_congr _ _ a _ fun b hb => ?_
    have hab : a < b := hL.1 b ((perm_stableSort (before' l) L).mem_iff.mp hb)
    unfold before before' Beats
    have : ¬ b < a := not_lt.mpr hab.le
    simp [this]

theorem sortedFrom_refine (l : Fin 8 → EReal) : sortedFrom (before l) = sortedFrom (before' l) := by
  have h : sortPositions 8 (before l) = sortPositions 8 (before' l) :=
    stableSort_refine l _ (List.pairwise_lt_finRange 8)
  funext k
  unfold sortedFrom
  rw [List.get_of_eq h]
  rfl

theorem beats_or {l : Fin 8 → EReal} {a b : Fin 8} (h : a ≠ b) : ¬ Beats l b a → Beats l a b := by
  unfold Beats
  intro hb
  push Not at hb
  rcases lt_trichotomy (l a) (l b) with h1 | h1 | h1
  · exact absurd h1 (not_lt.mpr hb.1)
  · exact .inr ⟨h1.symm, lt_of_le_of_ne (hb.2 h1) h⟩
  · exact .inl h1

theorem top2_sorted (l : Fin 8 → EReal) : Top2 l (sortedFrom (before l) 0) (sortedFrom (before l) 1) := by
  rw [sortedFrom_refine]
  have key : ∀ i j : Fin 8, i < j → Beats l (sortedFrom (before' l) i) (sortedFrom (before' l) j) := by
    intro i j hij
    refine beats_or (fun e => hij.ne (sortedFrom_injective _ e)) ?_
    have := sortedFrom_noInversion (before' l) (before' l) ?_ (fun _ _ h => h) ?_ i j hij
    · unfold before' at this ⊢; simpa using this
    · intro a b h
      unfold before' Beats at *
      simp only [decide_eq_true_eq, decide_eq_false_iff_not] at *
      rintro (h' | ⟨h', h''⟩) <;> rcases h with h | ⟨h1, h2⟩
      · exact lt_asymm h h'
      · exact h'.ne h1.symm
      · exact h.ne h'.symm
      · exact lt_asymm h2 h''
    · intro a b c
      unfold before' Beats
      simp only [decide_eq_false_iff_not]
      intro h1 h2
      push Not at *
      refine ⟨h1.1.trans h2.1, fun e => ?_⟩
      have e1 : l b = l a := le_antisymm (e ▸ h2.1) h1.1
      have e2 : l c = l b := e.trans e1.symm
      exact (h2.2 e2).trans (h1.2 e1)
  refine ⟨fun e => absurd (sortedFrom_injective _ e) (by decide), fun k hk => ?_, fun k hk hk' => ?_⟩
  · obtain ⟨n, rfl⟩ := sortedFrom_surjective (before' l) k
    exact key 0 n (Fin.pos_of_ne_zero fun e => hk (e ▸ rfl))
  · obtain ⟨n, rfl⟩ := sortedFrom_surjective (before' l) k
    refine key 1 n ?_
    have h0 : n ≠ 0 := fun e => hk (e ▸ rfl)
    have h1 : n ≠ 1 := fun e => hk' (e ▸ rfl)
    have a0 : n.val ≠ 0 := fun e => h0 (Fin.ext e)
    have a1 : n.val ≠ 1 := fun e => h1 (Fin.ext e)
    rw [Fin.lt_def]
    show 1 < n.val
    omega

/-! ## Experts -/

/-- One half, and the single-precision square root of a half. -/
def half : EReal := Ideal.ofBits .f32 0x3F000000#32
def rt : EReal := Ideal.ofBits .f32 0x3F3504F3#32
/-- The activation. -/
def gelu (a : EReal) : EReal := half * a * (1 + Ideal.erf (a * rt))
/-- One expert applied to one token, read at one output feature. -/
def mlp (h : Fin 768 → EReal) (w1 : Fin 768 → Fin 512 → EReal) (b1 w2 : Fin 512 → EReal) (b2 : EReal) : EReal :=
  ∑ f, gelu (∑ d, h d * w1 d f + b1 f) * w2 f + b2

/-- The activation written with the complementary error function of the negated argument. -/
theorem gelu_neg (a : EReal) : half * a * Ideal.erfc (-a * rt) = gelu a := by
  unfold gelu
  rw [EReal.neg_mul, Ideal.erfc_neg]

end Cert.Proof.Val
-- ==== Proof.KAttn.lean ====
/- The kernel's attention block read at a position. -/
module

public import proofs.«01_k».proof.Proof.Region0
public import proofs.«01_k».proof.Proof.Spec
public import Idealize.ShloMosaic.Lib.MatmulPlain
public import Idealize.ShloMosaic.Lib.Pipeline.Value

@[expose] public section

noncomputable section

namespace Cert.Proof.Val

open Cert.KernelIdeal Cert.KernelIdeal.Gen Cert.Proof.KI
open Idealize.ShloMosaic Idealize.ShloMosaic.ValueIdx

/-! ## Reading the shape operations -/

/-- A product of two matrices with a zero accumulator. -/
theorem mm_at {M K N : ℕ} (lhs : FVec Ideal ⟨2, ![M, K]⟩ .f32) (rhs : FVec Ideal ⟨2, ![K, N]⟩ .f32) (r : Fin M) (c : Fin N) :
    FloatOps.matmul (DotDims.plain M K N) none lhs rhs (constant ⟨2, ![M, N]⟩ .f32 0x00000000#32) (ix2 r c)
      = ∑ k : Fin K, (lhs (ix2 r k) : EReal) * rhs (ix2 k c) := by
  rw [Ideal.matmul_plain_apply]
  show Ideal.ofBits .f32 0x00000000#32 + _ = _
  rw [Ideal.ofBits_zero_f32, zero_add]

/-- A product with the second matrix transposed. -/
theorem mt_at {M K N : ℕ} (lhs : FVec Ideal ⟨2, ![M, K]⟩ .f32) (rhs : FVec Ideal ⟨2, ![N, K]⟩ .f32) (r : Fin M) (c : Fin N) :
    FloatOps.matmul (DotDims.transposedRhs M K N) none lhs rhs (constant ⟨2, ![M, N]⟩ .f32 0x00000000#32) (ix2 r c)
      = ∑ k : Fin K, (lhs (ix2 r k) : EReal) * rhs (ix2 c k) := by
  rw [Ideal.matmul_transposedRhs_apply]
  show Ideal.ofBits .f32 0x00000000#32 + _ = _
  rw [Ideal.ofBits_zero_f32, zero_add]

/-- A column kept as a one-column matrix and repeated along the rows. -/
theorem colBcast_at {α : Type} {M N : ℕ} (hN : M ≠ 1) (x : (⟨1, ![M]⟩ : Shape).Idx → α) (h : (⟨1, ![M]⟩ : Shape).ShapeCasts ⟨2, ![M, 1]⟩)
    (hb : (⟨2, ![M, 1]⟩ : Shape).Broadcasts ⟨2, ![M, N]⟩) (r : Fin M) (c : Fin N) :
    broadcastTo ⟨2, ![M, N]⟩ (shapeCast ⟨2, ![M, 1]⟩ x h) hb (ix2 r c) = x (ix1 r) := by
  rw [broadcastTo_apply _ hb (ix2 r c) (ix2 r 0)]
  · exact shapeCast_apply _ _ _ _ (by simp [Shape.rowMajor_val_one, Shape.rowMajor_val_two]; rfl)
  · intro a; fin_cases a
    · show r.val = if M = 1 then 0 else r.val
      rw [if_neg hN]
    · rfl

/-- A row kept as a one-row matrix and repeated down the columns. -/
theorem rowBcast_at {α : Type} {M N : ℕ} (hN : N ≠ 1) (x : (⟨2, ![1, N]⟩ : Shape).Idx → α)
    (hb : (⟨2, ![1, N]⟩ : Shape).Broadcasts ⟨2, ![M, N]⟩) (r : Fin M) (c : Fin N) :
    broadcastTo ⟨2, ![M, N]⟩ x hb (ix2 r c) = x (ix2 0 c) := by
  refine broadcastTo_apply _ hb (ix2 r c) (ix2 0 c) ?_
  intro a; fin_cases a
  · rfl
  · show c.val = if N = 1 then 0 else c.val
    rw [if_neg hN]

/-- A vector seen as a one-row matrix. -/
theorem asRow_at {α : Type} {N : ℕ} (x : (⟨1, ![N]⟩ : Shape).Idx → α) (h : (⟨1, ![N]⟩ : Shape).ShapeCasts ⟨2, ![1, N]⟩) (c : Fin N) :
    shapeCast ⟨2, ![1, N]⟩ x h (ix2 0 c) = x (ix1 c) :=
  shapeCast_apply _ _ _ _ (by simp [Shape.rowMajor_val_one, Shape.rowMajor_val_two]; rfl)

/-- The sum of a row. -/
theorem rowSum_at {M N : ℕ} (x : FVec Ideal ⟨2, ![M, N]⟩ .f32) (h : (⟨2, ![M, N]⟩ : Shape).Reduces [1] ⟨1, ![M]⟩) (hφ hacc) (r : Fin M) :
    multiReduction .add [1] ⟨1, ![M]⟩ x 0x00000000#32 h hφ hacc (ix1 r) = ∑ m : Fin N, (x (ix2 r m) : EReal) :=
  (Ideal.multiReduction_add_single x _ h hφ hacc _).trans
    (Finset.sum_congr rfl fun m _ => congrArg x (funext fun a => by fin_cases a <;> rfl))

/-- The sum of a column. -/
theorem colSum_at {M N : ℕ} (x : FVec Ideal ⟨2, ![M, N]⟩ .f32) (h : (⟨2, ![M, N]⟩ : Shape).Reduces [0] ⟨1, ![N]⟩) (hφ hacc) (c : Fin N) :
    multiReduction .add [0] ⟨1, ![N]⟩ x 0x00000000#32 h hφ hacc (ix1 c) = ∑ t : Fin M, (x (ix2 t c) : EReal) :=
  (Ideal.multiReduction_add_single x _ h hφ hacc _).trans
    (Finset.sum_congr rfl fun m _ => congrArg x (funext fun a => by fin_cases a <;> rfl))

theorem ofBits_ninf : Ideal.ofBits .f32 0xFF800000#32 = ⊥ := by simp [Ideal.ofBits, Ideal.ieee]

/-- The largest of a row. -/
theorem rowMax_at {M N : ℕ} (x : FVec Ideal ⟨2, ![M, N]⟩ .f32) (h : (⟨2, ![M, N]⟩ : Shape).Reduces [1] ⟨1, ![M]⟩) (hφ hacc) (r : Fin M) :
    multiReduction .maximumf [1] ⟨1, ![M]⟩ x 0xFF800000#32 h hφ hacc (ix1 r) = peak fun m : Fin N => (x (ix2 r m) : EReal) := by
  refine (Ideal.multiReduction_maximumf_single x _ h hφ hacc _).trans ?_
  show Finset.univ.fold max (Ideal.ofBits .f32 0xFF800000#32) _ = _
  rw [ofBits_ninf]
  exact congrArg (Finset.univ.fold max ⊥) (funext fun m => congrArg x (funext fun a => by fin_cases a <;> rfl))

/-! ## One head -/

/-- One head of one block, from its queries, keys and values. -/
def headOf (q : FVec Ideal S256x64 .f32) (k v : FVec Ideal S2048x64 .f32) : FVec Ideal S256x64 .f32 :=
  k0_pay13 q k v (constant S256x2048 .f32 0x00000000#32)

/-- The factor of the scores. -/
abbrev scl : EReal := Ideal.ofBits .f32 0x3E000000#32

set_option maxRecDepth 8192 in
theorem headOf_at (q : FVec Ideal S256x64 .f32) (k v : FVec Ideal S2048x64 .f32) (r : Fin 256) (c : Fin 64) :
    headOf q k v (ix2 r c)
      = headK (fun m : Fin 2048 => (∑ d : Fin 64, (q (ix2 r d) : EReal) * k (ix2 m d)) * scl) (fun m => v (ix2 m c)) := by
  have hs : ∀ m : Fin 2048, (mulf (FloatOps.matmul dot_S256x64_S2048x64_S256x2048_1_1_0_0_n_n none q k (constant S256x2048 .f32 0x00000000#32))
      (broadcast S256x2048 (Scalar.ofBits .f32 0x3E000000#32 : Ideal .f32)) : FVec Ideal S256x2048 .f32) (ix2 r m)
      = (∑ d : Fin 64, (q (ix2 r d) : EReal) * k (ix2 m d)) * scl := fun m => by
    rw [mulf_apply]
    exact congrArg (· * scl) (mt_at q k r m)
  generalize hS : (mulf (FloatOps.matmul dot_S256x64_S2048x64_S256x2048_1_1_0_0_n_n none q k (constant S256x2048 .f32 0x00000000#32))
      (broadcast S256x2048 (Scalar.ofBits .f32 0x3E000000#32 : Ideal .f32)) : FVec Ideal S256x2048 .f32) = s at hs
  have hp : ∀ m : Fin 2048, (exp (subf s (broadcastTo S256x2048 (shapeCast S256x1 (multiReduction .maximumf [1] S256 s 0xFF800000#32 reduces_S256x2048_S256 (.inl rfl) rfl) shapeCasts_S256_S256x1) broadcasts_S256x1_S256x2048)) : FVec Ideal S256x2048 .f32) (ix2 r m)
      = wt (fun m : Fin 2048 => (s (ix2 r m) : EReal)) m := fun m => by
    show Ideal.exp ((s (ix2 r m) : EReal) - _) = _
    exact congrArg (fun z => Ideal.exp (s (ix2 r m) - z)) ((colBcast_at (by decide) _ _ _ r m).trans (rowMax_at s _ _ _ r))
  generalize hP : (exp (subf s (broadcastTo S256x2048 (shapeCast S256x1 (multiReduction .maximumf [1] S256 s 0xFF800000#32 reduces_S256x2048_S256 (.inl rfl) rfl) shapeCasts_S256_S256x1) broadcasts_S256x1_S256x2048)) : FVec Ideal S256x2048 .f32) = p at hp
  have e : headOf q k v = divf (FloatOps.matmul dot_S256x2048_S2048x64_S256x64_1_0_0_1_n_n none p v (constant S256x64 .f32 0x00000000#32))
      (broadcastTo S256x64 (shapeCast S256x1 (multiReduction .add [1] S256 p 0x00000000#32 reduces_S256x2048_S256 (.inl rfl) rfl) shapeCasts_S256_S256x1) broadcasts_S256x1_S256x64) := by
    subst hP; subst hS; rfl
  rw [e, divf_apply]
  unfold headK
  have e1 : (FloatOps.matmul dot_S256x2048_S2048x64_S256x64_1_0_0_1_n_n none p v (constant S256x64 .f32 0x00000000#32)) (ix2 r c)
      = ∑ m : Fin 2048, (p (ix2 r m) : EReal) * v (ix2 m c) := mm_at p v r c
  have e3 : broadcastTo S256x64 (shapeCast S256x1 (multiReduction .add [1] S256 p 0x00000000#32 reduces_S256x2048_S256 (.inl rfl) rfl) shapeCasts_S256_S256x1) broadcasts_S256x1_S256x64 (ix2 r c)
      = ∑ m : Fin 2048, (p (ix2 r m) : EReal) := (colBcast_at (by decide) _ _ _ r c).trans (rowSum_at p _ _ _ r)
  have e2 : ∀ m : Fin 2048, (p (ix2 r m) : EReal) = wt (fun m : Fin 2048 => (∑ d : Fin 64, (q (ix2 r d) : EReal) * k (ix2 m d)) * scl) m :=
    fun m => (hp m).trans (by simp only [hs])
  refine (congrArg₂ Ideal.div e1 e3).trans ?_
  exact congrArg₂ Ideal.div (Finset.sum_congr rfl fun m _ => by rw [e2 m]) (Finset.sum_congr rfl fun m _ => e2 m)

/-! ## The block -/

theorem kvCol_at (kv : FVec Ideal S2048x1536 .f32) (o : ℕ) (h) (m : Fin 2048) (d : Fin 64) (ho : o + d.val < 1536) :
    kvCol (F := Ideal) kv o h (ix2 m d) = kv (ix2 m ⟨o + d.val, ho⟩) := by
  refine congrArg kv (funext fun a => Fin.ext ?_)
  fin_cases a
  · show 0 + 1 * m.val = m.val; omega
  · show o + 1 * d.val = o + d.val; omega

theorem qCol_at (q : FVec Ideal S256x768 .f32) (o : ℕ) (h : S256x768.Slices ![0, o] S256x64) (r : Fin 256) (d : Fin 64) (ho : o + d.val < 768) :
    extractStridedSlice S256x64 ![0, o] q h (ix2 r d) = q (ix2 r ⟨o + d.val, ho⟩) := by
  refine extractStridedSlice_apply _ _ _ _ _ fun a => ?_
  fin_cases a
  · show r.val = 0 + r.val; omega
  · rfl

theorem headCol_at (q : FVec Ideal S256x768 .f32) (kv : FVec Ideal S2048x1536 .f32) (h : ℕ) (hh : h < 12) (o o' : ℕ) (ho : o = 64 * h) (ho' : o' = 768 + 64 * h)
    (hs : S256x768.Slices ![0, o] S256x64) (hk hv) (r : Fin 256) (c : Fin 64) :
    headOf (extractStridedSlice S256x64 ![0, o] q hs) (kvCol (F := Ideal) kv o hk) (kvCol (F := Ideal) kv o' hv) (ix2 r c)
      = headK (fun m : Fin 2048 => (∑ d : Fin 64, (q (ix2 r ⟨64 * h + d.val, by omega⟩) : EReal) * kv (ix2 m ⟨64 * h + d.val, by omega⟩)) * scl)
          (fun m => kv (ix2 m ⟨768 + 64 * h + c.val, by omega⟩)) := by
  subst ho ho'
  rw [headOf_at]
  congr 1
  · funext m
    congr 1
    refine Finset.sum_congr rfl fun d _ => ?_
    rw [qCol_at _ _ _ _ _ (by omega), kvCol_at _ _ _ _ _ (by omega)]
  · funext m
    rw [kvCol_at _ _ _ _ _ (by omega)]

/-- The twelve heads side by side. -/
def sideBySide (p0 p1 p2 p3 p4 p5 p6 p7 p8 p9 p10 p11 : FVec Ideal S256x64 .f32) : FVec Ideal S256x768 .f32 :=
  concatenate S256x768 1 [⟨S256x64, p0⟩, ⟨S256x64, p1⟩, ⟨S256x64, p2⟩, ⟨S256x64, p3⟩, ⟨S256x64, p4⟩, ⟨S256x64, p5⟩, ⟨S256x64, p6⟩, ⟨S256x64, p7⟩, ⟨S256x64, p8⟩, ⟨S256x64, p9⟩, ⟨S256x64, p10⟩, ⟨S256x64, p11⟩] concatenates_S256x64_S256x64_S256x64_S256x64_S256x64_S256x64_S256x64_S256x64_S256x64_S256x64_S256x64_S256x64_S256x768_d1

theorem side0 (p0 p1 p2 p3 p4 p5 p6 p7 p8 p9 p10 p11 : FVec Ideal S256x64 .f32) (r : Fin 256) (c : Fin 64) :
    sideBySide p0 p1 p2 p3 p4 p5 p6 p7 p8 p9 p10 p11 (ix2 r ⟨64 * 0 + c.val, by omega⟩) = p0 (ix2 r c) := by
  refine concatenate_apply_piece (t := S256x768) (1 : Fin 2) [⟨S256x64, p0⟩, ⟨S256x64, p1⟩, ⟨S256x64, p2⟩, ⟨S256x64, p3⟩, ⟨S256x64, p4⟩, ⟨S256x64, p5⟩, ⟨S256x64, p6⟩, ⟨S256x64, p7⟩, ⟨S256x64, p8⟩, ⟨S256x64, p9⟩, ⟨S256x64, p10⟩, ⟨S256x64, p11⟩] _ _ 0 (show 0 < 12 by decide) S256x64 p0 rfl rfl (64 * 0) rfl (ix2 r c) ?_ rfl
  intro b hb; fin_cases b
  · rfl
  · exact absurd rfl hb

theorem side1 (p0 p1 p2 p3 p4 p5 p6 p7 p8 p9 p10 p11 : FVec Ideal S256x64 .f32) (r : Fin 256) (c : Fin 64) :
    sideBySide p0 p1 p2 p3 p4 p5 p6 p7 p8 p9 p10 p11 (ix2 r ⟨64 * 1 + c.val, by omega⟩) = p1 (ix2 r c) := by
  refine concatenate_apply_piece (t := S256x768) (1 : Fin 2) [⟨S256x64, p0⟩, ⟨S256x64, p1⟩, ⟨S256x64, p2⟩, ⟨S256x64, p3⟩, ⟨S256x64, p4⟩, ⟨S256x64, p5⟩, ⟨S256x64, p6⟩, ⟨S256x64, p7⟩, ⟨S256x64, p8⟩, ⟨S256x64, p9⟩, ⟨S256x64, p10⟩, ⟨S256x64, p11⟩] _ _ 1 (show 1 < 12 by decide) S256x64 p1 rfl rfl (64 * 1) rfl (ix2 r c) ?_ rfl
  intro b hb; fin_cases b
  · rfl
  · exact absurd rfl hb

theorem side2 (p0 p1 p2 p3 p4 p5 p6 p7 p8 p9 p10 p11 : FVec Ideal S256x64 .f32) (r : Fin 256) (c : Fin 64) :
    sideBySide p0 p1 p2 p3 p4 p5 p6 p7 p8 p9 p10 p11 (ix2 r ⟨64 * 2 + c.val, by omega⟩) = p2 (ix2 r c) := by
  refine concatenate_apply_piece (t := S256x768) (1 : Fin 2) [⟨S256x64, p0⟩, ⟨S256x64, p1⟩, ⟨S256x64, p2⟩, ⟨S256x64, p3⟩, ⟨S256x64, p4⟩, ⟨S256x64, p5⟩, ⟨S256x64, p6⟩, ⟨S256x64, p7⟩, ⟨S256x64, p8⟩, ⟨S256x64, p9⟩, ⟨S256x64, p10⟩, ⟨S256x64, p11⟩] _ _ 2 (show 2 < 12 by decide) S256x64 p2 rfl rfl (64 * 2) rfl (ix2 r c) ?_ rfl
  intro b hb; fin_cases b
  · rfl
  · exact absurd rfl hb

theorem side3 (p0 p1 p2 p3 p4 p5 p6 p7 p8 p9 p10 p11 : FVec Ideal S256x64 .f32) (r : Fin 256) (c : Fin 64) :
    sideBySide p0 p1 p2 p3 p4 p5 p6 p7 p8 p9 p10 p11 (ix2 r ⟨64 * 3 + c.val, by omega⟩) = p3 (ix2 r c) := by
  refine concatenate_apply_piece (t := S256x768) (1 : Fin 2) [⟨S256x64, p0⟩, ⟨S256x64, p1⟩, ⟨S256x64, p2⟩, ⟨S256x64, p3⟩, ⟨S256x64, p4⟩, ⟨S256x64, p5⟩, ⟨S256x64, p6⟩, ⟨S256x64, p7⟩, ⟨S256x64, p8⟩, ⟨S256x64, p9⟩, ⟨S256x64, p10⟩, ⟨S256x64, p11⟩] _ _ 3 (show 3 < 12 by decide) S256x64 p3 rfl rfl (64 * 3) rfl (ix2 r c) ?_ rfl
  intro b hb; fin_cases b
  · rfl
  · exact absurd rfl hb

theorem side4 (p0 p1 p2 p3 p4 p5 p6 p7 p8 p9 p10 p11 : FVec Ideal S256x64 .f32) (r : Fin 256) (c : Fin 64) :
    sideBySide p0 p1 p2 p3 p4 p5 p6 p7 p8 p9 p10 p11 (ix2 r ⟨64 * 4 + c.val, by omega⟩) = p4 (ix2 r c) := by
  refine concatenate_apply_piece (t := S256x768) (1 : Fin 2) [⟨S256x64, p0⟩, ⟨S256x64, p1⟩, ⟨S256x64, p2⟩, ⟨S256x64, p3⟩, ⟨S256x64, p4⟩, ⟨S256x64, p5⟩, ⟨S256x64, p6⟩, ⟨S256x64, p7⟩, ⟨S256x64, p8⟩, ⟨S256x64, p9⟩, ⟨S256x64, p10⟩, ⟨S256x64, p11⟩] _ _ 4 (show 4 < 12 by decide) S256x64 p4 rfl rfl (64 * 4) rfl (ix2 r c) ?_ rfl
  intro b hb; fin_cases b
  · rfl
  · exact absurd rfl hb

theorem side5 (p0 p1 p2 p3 p4 p5 p6 p7 p8 p9 p10 p11 : FVec Ideal S256x64 .f32) (r : Fin 256) (c : Fin 64) :
    sideBySide p0 p1 p2 p3 p4 p5 p6 p7 p8 p9 p10 p11 (ix2 r ⟨64 * 5 + c.val, by omega⟩) = p5 (ix2 r c) := by
  refine concatenate_apply_piece (t := S256x768) (1 : Fin 2) [⟨S256x64, p0⟩, ⟨S256x64, p1⟩, ⟨S256x64, p2⟩, ⟨S256x64, p3⟩, ⟨S256x64, p4⟩, ⟨S256x64, p5⟩, ⟨S256x64, p6⟩, ⟨S256x64, p7⟩, ⟨S256x64, p8⟩, ⟨S256x64, p9⟩, ⟨S256x64, p10⟩, ⟨S256x64, p11⟩] _ _ 5 (show 5 < 12 by decide) S256x64 p5 rfl rfl (64 * 5) rfl (ix2 r c) ?_ rfl
  intro b hb; fin_cases b
  · rfl
  · exact absurd rfl hb

theorem side6 (p0 p1 p2 p3 p4 p5 p6 p7 p8 p9 p10 p11 : FVec Ideal S256x64 .f32) (r : Fin 256) (c : Fin 64) :
    sideBySide p0 p1 p2 p3 p4 p5 p6 p7 p8 p9 p10 p11 (ix2 r ⟨64 * 6 + c.val, by omega⟩) = p6 (ix2 r c) := by
  refine concatenate_apply_piece (t := S256x768) (1 : Fin 2) [⟨S256x64, p0⟩, ⟨S256x64, p1⟩, ⟨S256x64, p2⟩, ⟨S256x64, p3⟩, ⟨S256x64, p4⟩, ⟨S256x64, p5⟩, ⟨S256x64, p6⟩, ⟨S256x64, p7⟩, ⟨S256x64, p8⟩, ⟨S256x64, p9⟩, ⟨S256x64, p10⟩, ⟨S256x64, p11⟩] _ _ 6 (show 6 < 12 by decide) S256x64 p6 rfl rfl (64 * 6) rfl (ix2 r c) ?_ rfl
  intro b hb; fin_cases b
  · rfl
  · exact absurd rfl hb

theorem side7 (p0 p1 p2 p3 p4 p5 p6 p7 p8 p9 p10 p11 : FVec Ideal S256x64 .f32) (r : Fin 256) (c : Fin 64) :
    sideBySide p0 p1 p2 p3 p4 p5 p6 p7 p8 p9 p10 p11 (ix2 r ⟨64 * 7 + c.val, by omega⟩) = p7 (ix2 r c) := by
  refine concatenate_apply_piece (t := S256x768) (1 : Fin 2) [⟨S256x64, p0⟩, ⟨S256x64, p1⟩, ⟨S256x64, p2⟩, ⟨S256x64, p3⟩, ⟨S256x64, p4⟩, ⟨S256x64, p5⟩, ⟨S256x64, p6⟩, ⟨S256x64, p7⟩, ⟨S256x64, p8⟩, ⟨S256x64, p9⟩, ⟨S256x64, p10⟩, ⟨S256x64, p11⟩] _ _ 7 (show 7 < 12 by decide) S256x64 p7 rfl rfl (64 * 7) rfl (ix2 r c) ?_ rfl
  intro b hb; fin_cases b
  · rfl
  · exact absurd rfl hb

theorem side8 (p0 p1 p2 p3 p4 p5 p6 p7 p8 p9 p10 p11 : FVec Ideal S256x64 .f32) (r : Fin 256) (c : Fin 64) :
    sideBySide p0 p1 p2 p3 p4 p5 p6 p7 p8 p9 p10 p11 (ix2 r ⟨64 * 8 + c.val, by omega⟩) = p8 (ix2 r c) := by
  refine concatenate_apply_piece (t := S256x768) (1 : Fin 2) [⟨S256x64, p0⟩, ⟨S256x64, p1⟩, ⟨S256x64, p2⟩, ⟨S256x64, p3⟩, ⟨S256x64, p4⟩, ⟨S256x64, p5⟩, ⟨S256x64, p6⟩, ⟨S256x64, p7⟩, ⟨S256x64, p8⟩, ⟨S256x64, p9⟩, ⟨S256x64, p10⟩, ⟨S256x64, p11⟩] _ _ 8 (show 8 < 12 by decide) S256x64 p8 rfl rfl (64 * 8) rfl (ix2 r c) ?_ rfl
  intro b hb; fin_cases b
  · rfl
  · exact absurd rfl hb

theorem side9 (p0 p1 p2 p3 p4 p5 p6 p7 p8 p9 p10 p11 : FVec Ideal S256x64 .f32) (r : Fin 256) (c : Fin 64) :
    sideBySide p0 p1 p2 p3 p4 p5 p6 p7 p8 p9 p10 p11 (ix2 r ⟨64 * 9 + c.val, by omega⟩) = p9 (ix2 r c) := by
  refine concatenate_apply_piece (t := S256x768) (1 : Fin 2) [⟨S256x64, p0⟩, ⟨S256x64, p1⟩, ⟨S256x64, p2⟩, ⟨S256x64, p3⟩, ⟨S256x64, p4⟩, ⟨S256x64, p5⟩, ⟨S256x64, p6⟩, ⟨S256x64, p7⟩, ⟨S256x64, p8⟩, ⟨S256x64, p9⟩, ⟨S256x64, p10⟩, ⟨S256x64, p11⟩] _ _ 9 (show 9 < 12 by decide) S256x64 p9 rfl rfl (64 * 9) rfl (ix2 r c) ?_ rfl
  intro b hb; fin_cases b
  · rfl
  · exact absurd rfl hb

theorem side10 (p0 p1 p2 p3 p4 p5 p6 p7 p8 p9 p10 p11 : FVec Ideal S256x64 .f32) (r : Fin 256) (c : Fin 64) :
    sideBySide p0 p1 p2 p3 p4 p5 p6 p7 p8 p9 p10 p11 (ix2 r ⟨64 * 10 + c.val, by omega⟩) = p10 (ix2 r c) := by
  refine concatenate_apply_piece (t := S256x768) (1 : Fin 2) [⟨S256x64, p0⟩, ⟨S256x64, p1⟩, ⟨S256x64, p2⟩, ⟨S256x64, p3⟩, ⟨S256x64, p4⟩, ⟨S256x64, p5⟩, ⟨S256x64, p6⟩, ⟨S256x64, p7⟩, ⟨S256x64, p8⟩, ⟨S256x64, p9⟩, ⟨S256x64, p10⟩, ⟨S256x64, p11⟩] _ _ 10 (show 10 < 12 by decide) S256x64 p10 rfl rfl (64 * 10) rfl (ix2 r c) ?_ rfl
  intro b hb; fin_cases b
  · rfl
  · exact absurd rfl hb

theorem side11 (p0 p1 p2 p3 p4 p5 p6 p7 p8 p9 p10 p11 : FVec Ideal S256x64 .f32) (r : Fin 256) (c : Fin 64) :
    sideBySide p0 p1 p2 p3 p4 p5 p6 p7 p8 p9 p10 p11 (ix2 r ⟨64 * 11 + c.val, by omega⟩) = p11 (ix2 r c) := by
  refine concatenate_apply_piece (t := S256x768) (1 : Fin 2) [⟨S256x64, p0⟩, ⟨S256x64, p1⟩, ⟨S256x64, p2⟩, ⟨S256x64, p3⟩, ⟨S256x64, p4⟩, ⟨S256x64, p5⟩, ⟨S256x64, p6⟩, ⟨S256x64, p7⟩, ⟨S256x64, p8⟩, ⟨S256x64, p9⟩, ⟨S256x64, p10⟩, ⟨S256x64, p11⟩] _ _ 11 (show 11 < 12 by decide) S256x64 p11 rfl rfl (64 * 11) rfl (ix2 r c) ?_ rfl
  intro b hb; fin_cases b
  · rfl
  · exact absurd rfl hb

set_option maxRecDepth 8192 in
theorem attnBlk_eq (xb : FVec Ideal S256x768 .f32) (wq : FVec Ideal S768x768 .f32) (kv : FVec Ideal S2048x1536 .f32) :
    attnBlk (F := Ideal) xb wq kv = sideBySide
      (headOf (extractStridedSlice S256x64 ![0, 0] (k0_pay4 (F := Ideal) xb wq) slices_S256x768_o0_0_S256x64) (kvCol (F := Ideal) kv 0 inb_S2048x1536_S2048x64_0_0) (kvCol (F := Ideal) kv 768 inb_S2048x1536_S2048x64_0_768))
      (headOf (extractStridedSlice S256x64 ![0, 64] (k0_pay4 (F := Ideal) xb wq) slices_S256x768_o0_64_S256x64) (kvCol (F := Ideal) kv 64 inb_S2048x1536_S2048x64_0_64) (kvCol (F := Ideal) kv 832 inb_S2048x1536_S2048x64_0_832))
      (headOf (extractStridedSlice S256x64 ![0, 128] (k0_pay4 (F := Ideal) xb wq) slices_S256x768_o0_128_S256x64) (kvCol (F := Ideal) kv 128 inb_S2048x1536_S2048x64_0_128) (kvCol (F := Ideal) kv 896 inb_S2048x1536_S2048x64_0_896))
      (headOf (extractStridedSlice S256x64 ![0, 192] (k0_pay4 (F := Ideal) xb wq) slices_S256x768_o0_192_S256x64) (kvCol (F := Ideal) kv 192 inb_S2048x1536_S2048x64_0_192) (kvCol (F := Ideal) kv 960 inb_S2048x1536_S2048x64_0_960))
      (headOf (extractStridedSlice S256x64 ![0, 256] (k0_pay4 (F := Ideal) xb wq) slices_S256x768_o0_256_S256x64) (kvCol (F := Ideal) kv 256 inb_S2048x1536_S2048x64_0_256) (kvCol (F := Ideal) kv 1024 inb_S2048x1536_S2048x64_0_1024))
      (headOf (extractStridedSlice S256x64 ![0, 320] (k0_pay4 (F := Ideal) xb wq) slices_S256x768_o0_320_S256x64) (kvCol (F := Ideal) kv 320 inb_S2048x1536_S2048x64_0_320) (kvCol (F := Ideal) kv 1088 inb_S2048x1536_S2048x64_0_1088))
      (headOf (extractStridedSlice S256x64 ![0, 384] (k0_pay4 (F := Ideal) xb wq) slices_S256x768_o0_384_S256x64) (kvCol (F := Ideal) kv 384 inb_S2048x1536_S2048x64_0_384) (kvCol (F := Ideal) kv 1152 inb_S2048x1536_S2048x64_0_1152))
      (headOf (extractStridedSlice S256x64 ![0, 448] (k0_pay4 (F := Ideal) xb wq) slices_S256x768_o0_448_S256x64) (kvCol (F := Ideal) kv 448 inb_S2048x1536_S2048x64_0_448) (kvCol (F := Ideal) kv 1216 inb_S2048x1536_S2048x64_0_1216))
      (headOf (extractStridedSlice S256x64 ![0, 512] (k0_pay4 (F := Ideal) xb wq) slices_S256x768_o0_512_S256x64) (kvCol (F := Ideal) kv 512 inb_S2048x1536_S2048x64_0_512) (kvCol (F := Ideal) kv 1280 inb_S2048x1536_S2048x64_0_1280))
      (headOf (extractStridedSlice S256x64 ![0, 576] (k0_pay4 (F := Ideal) xb wq) slices_S256x768_o0_576_S256x64) (kvCol (F := Ideal) kv 576 inb_S2048x1536_S2048x64_0_576) (kvCol (F := Ideal) kv 1344 inb_S2048x1536_S2048x64_0_1344))
      (headOf (extractStridedSlice S256x64 ![0, 640] (k0_pay4 (F := Ideal) xb wq) slices_S256x768_o0_640_S256x64) (kvCol (F := Ideal) kv 640 inb_S2048x1536_S2048x64_0_640) (kvCol (F := Ideal) kv 1408 inb_S2048x1536_S2048x64_0_1408))
      (headOf (extractStridedSlice S256x64 ![0, 704] (k0_pay4 (F := Ideal) xb wq) slices_S256x768_o0_704_S256x64) (kvCol (F := Ideal) kv 704 inb_S2048x1536_S2048x64_0_704) (kvCol (F := Ideal) kv 1472 inb_S2048x1536_S2048x64_0_1472)) := rfl

theorem attnBlk_at (xb : FVec Ideal S256x768 .f32) (wq : FVec Ideal S768x768 .f32) (kv : FVec Ideal S2048x1536 .f32) (h : Fin 12) (r : Fin 256) (c : Fin 64) :
    attnBlk (F := Ideal) xb wq kv (ix2 r ⟨64 * h.val + c.val, by omega⟩)
      = headK (fun m : Fin 2048 => (∑ d : Fin 64, (k0_pay4 (F := Ideal) xb wq (ix2 r ⟨64 * h.val + d.val, by omega⟩) : EReal) * kv (ix2 m ⟨64 * h.val + d.val, by omega⟩)) * scl)
          (fun m => kv (ix2 m ⟨768 + 64 * h.val + c.val, by omega⟩)) := by
  rw [attnBlk_eq]
  match h with
  | ⟨0, _⟩ => exact (side0 _ _ _ _ _ _ _ _ _ _ _ _ r c).trans (headCol_at _ _ 0 (by decide) _ _ rfl rfl _ _ _ r c)
  | ⟨1, _⟩ => exact (side1 _ _ _ _ _ _ _ _ _ _ _ _ r c).trans (headCol_at _ _ 1 (by decide) _ _ rfl rfl _ _ _ r c)
  | ⟨2, _⟩ => exact (side2 _ _ _ _ _ _ _ _ _ _ _ _ r c).trans (headCol_at _ _ 2 (by decide) _ _ rfl rfl _ _ _ r c)
  | ⟨3, _⟩ => exact (side3 _ _ _ _ _ _ _ _ _ _ _ _ r c).trans (headCol_at _ _ 3 (by decide) _ _ rfl rfl _ _ _ r c)
  | ⟨4, _⟩ => exact (side4 _ _ _ _ _ _ _ _ _ _ _ _ r c).trans (headCol_at _ _ 4 (by decide) _ _ rfl rfl _ _ _ r c)
  | ⟨5, _⟩ => exact (side5 _ _ _ _ _ _ _ _ _ _ _ _ r c).trans (headCol_at _ _ 5 (by decide) _ _ rfl rfl _ _ _ r c)
  | ⟨6, _⟩ => exact (side6 _ _ _ _ _ _ _ _ _ _ _ _ r c).trans (headCol_at _ _ 6 (by decide) _ _ rfl rfl _ _ _ r c)
  | ⟨7, _⟩ => exact (side7 _ _ _ _ _ _ _ _ _ _ _ _ r c).trans (headCol_at _ _ 7 (by decide) _ _ rfl rfl _ _ _ r c)
  | ⟨8, _⟩ => exact (side8 _ _ _ _ _ _ _ _ _ _ _ _ r c).trans (headCol_at _ _ 8 (by decide) _ _ rfl rfl _ _ _ r c)
  | ⟨9, _⟩ => exact (side9 _ _ _ _ _ _ _ _ _ _ _ _ r c).trans (headCol_at _ _ 9 (by decide) _ _ rfl rfl _ _ _ r c)
  | ⟨10, _⟩ => exact (side10 _ _ _ _ _ _ _ _ _ _ _ _ r c).trans (headCol_at _ _ 10 (by decide) _ _ rfl rfl _ _ _ r c)
  | ⟨11, _⟩ => exact (side11 _ _ _ _ _ _ _ _ _ _ _ _ r c).trans (headCol_at _ _ 11 (by decide) _ _ rfl rfl _ _ _ r c)

end Cert.Proof.Val
-- ==== Proof.KNorm.lean ====
/- The kernel's normalisation and attention output read at a position. -/
module

public import proofs.«01_k».proof.Proof.KAttn

@[expose] public section

noncomputable section

namespace Cert.Proof.Val

open Cert.KernelIdeal Cert.KernelIdeal.Gen Cert.Proof.KI
open Idealize.ShloMosaic Idealize.ShloMosaic.ValueIdx

/-! ## Batch normalisation -/

theorem k1_pay3_at (z : FVec Ideal S2048x768 .f32) (g b : FVec Ideal S1x768 .f32) (t : Fin 2048) (d : Fin 768) :
    k1_pay3 (F := Ideal) z g b (ix2 t d) = bn (fun t => z (ix2 t d)) (g (ix2 0 d)) (b (ix2 0 d)) t := by
  have hm : ∀ d : Fin 768, (divf (shapeCast S1x768 (multiReduction .add [0] S768 z 0x00000000#32 reduces_S2048x768_S768 (.inl rfl) rfl) shapeCasts_S768_S1x768)
      (broadcast S1x768 (Scalar.ofBits .f32 0x45000000#32 : Ideal .f32)) : FVec Ideal S1x768 .f32) (ix2 0 d) = colMean fun t => z (ix2 t d) := fun d =>
    congrArg (fun y => Ideal.div y cnt) ((asRow_at _ _ d).trans (colSum_at z _ _ _ d))
  generalize hM : (divf (shapeCast S1x768 (multiReduction .add [0] S768 z 0x00000000#32 reduces_S2048x768_S768 (.inl rfl) rfl) shapeCasts_S768_S1x768)
      (broadcast S1x768 (Scalar.ofBits .f32 0x45000000#32 : Ideal .f32)) : FVec Ideal S1x768 .f32) = mu at hm
  have hc : ∀ (t : Fin 2048) (d : Fin 768), (subf z (broadcastTo S2048x768 mu broadcasts_S1x768_S2048x768) : FVec Ideal S2048x768 .f32) (ix2 t d)
      = dev (fun t => z (ix2 t d)) t := fun t d =>
    congrArg (fun y => (z (ix2 t d) : EReal) - y) ((rowBcast_at (by decide) mu _ t d).trans (hm d))
  generalize hZ : (subf z (broadcastTo S2048x768 mu broadcasts_S1x768_S2048x768) : FVec Ideal S2048x768 .f32) = zc at hc
  have hv : ∀ d : Fin 768, (rsqrt (addf (divf (shapeCast S1x768 (multiReduction .add [0] S768 (mulf zc zc) 0x00000000#32 reduces_S2048x768_S768 (.inl rfl) rfl) shapeCasts_S768_S1x768)
      (broadcast S1x768 (Scalar.ofBits .f32 0x45000000#32 : Ideal .f32))) (broadcast S1x768 (Scalar.ofBits .f32 0x3727C5AC#32 : Ideal .f32))) : FVec Ideal S1x768 .f32) (ix2 0 d)
      = Ideal.rsqrt (colVar fun t => z (ix2 t d)) := fun d => by
    refine congrArg (fun y => Ideal.rsqrt (Ideal.div y cnt + eps)) ((asRow_at _ _ d).trans ((colSum_at (mulf zc zc) _ _ _ d).trans ?_))
    exact Finset.sum_congr rfl fun t _ => congrArg₂ (fun a b : EReal => a * b) (hc t d) (hc t d)
  generalize hR : (rsqrt (addf (divf (shapeCast S1x768 (multiReduction .add [0] S768 (mulf zc zc) 0x00000000#32 reduces_S2048x768_S768 (.inl rfl) rfl) shapeCasts_S768_S1x768)
      (broadcast S1x768 (Scalar.ofBits .f32 0x45000000#32 : Ideal .f32))) (broadcast S1x768 (Scalar.ofBits .f32 0x3727C5AC#32 : Ideal .f32))) : FVec Ideal S1x768 .f32) = rs at hv
  have e : k1_pay3 (F := Ideal) z g b = addf (mulf (mulf zc (broadcastTo S2048x768 rs broadcasts_S1x768_S2048x768))
      (broadcastTo S2048x768 (shapeCast S1x768 g shapeCasts_S1x768_S1x768) broadcasts_S1x768_S2048x768))
      (broadcastTo S2048x768 (shapeCast S1x768 b shapeCasts_S1x768_S1x768) broadcasts_S1x768_S2048x768) := by
    subst hR; subst hZ; subst hM; rfl
  rw [e, shapeCast_self, shapeCast_self]
  exact congrArg₂ (fun a b : EReal => a + b) (congrArg₂ (fun a b : EReal => a * b) (congrArg₂ (fun a b : EReal => a * b) (hc t d)
    ((rowBcast_at (by decide) rs _ t d).trans (hv d))) (rowBcast_at (by decide) g _ t d)) (rowBcast_at (by decide) b _ t d)

/-- The sum of the residual and the projected attention output. -/
theorem k0_pay23_at (x att : FVec Ideal S2048x768 .f32) (wo : FVec Ideal S768x768 .f32) (g b : FVec Ideal S1x768 .f32) (t : Fin 2048) (d : Fin 768) :
    k0_pay23 (F := Ideal) x att wo g b (ix2 t d)
      = bn (fun t => (x (ix2 t d) : EReal) + ∑ c : Fin 768, (att (ix2 t c) : EReal) * wo (ix2 c d)) (g (ix2 0 d)) (b (ix2 0 d)) t := by
  have e : k0_pay23 (F := Ideal) x att wo g b = k1_pay3 (F := Ideal) (addf x (FloatOps.matmul dot_S2048x768_S768x768_S2048x768_1_0_0_1_n_n none
      (shapeCast S2048x768 att shapeCasts_S2048x768_S2048x768) wo (constant S2048x768 .f32 0x00000000#32))) g b := rfl
  rw [e, k1_pay3_at, shapeCast_self]
  exact congrArg (fun z => bn z (g (ix2 0 d)) (b (ix2 0 d)) t) (funext fun t => congrArg (fun y => (x (ix2 t d) : EReal) + y) (mm_at att wo t d))

/-- The projection to 128 gate lanes. -/
theorem k0_pay24_at (x att : FVec Ideal S2048x768 .f32) (wo : FVec Ideal S768x768 .f32) (g b : FVec Ideal S1x768 .f32) (wg : FVec Ideal S768x128 .f32) (t : Fin 2048) (c : Fin 128) :
    k0_pay24 (F := Ideal) x att wo g b wg (ix2 t c) = ∑ d : Fin 768, (k0_pay23 (F := Ideal) x att wo g b (ix2 t d) : EReal) * wg (ix2 d c) := by
  have e : k0_pay24 (F := Ideal) x att wo g b wg = FloatOps.matmul dot_S2048x768_S768x128_S2048x128_1_0_0_1_n_n none (k0_pay23 (F := Ideal) x att wo g b)
      (shapeCast S768x128 wg shapeCasts_S768x128_S768x128) (constant S2048x128 .f32 0x00000000#32) := rfl
  rw [e, shapeCast_self]
  exact mm_at _ wg t c

/-! ## The attention output -/

theorem k0_pay1_at (x : FVec Ideal S2048x768 .f32) (w : FVec Ideal S768x1536 .f32) (t : Fin 2048) (c : Fin 1536) :
    k0_pay1 (F := Ideal) x w (ix2 t c) = ∑ d : Fin 768, (x (ix2 t d) : EReal) * w (ix2 d c) := by
  have e : k0_pay1 (F := Ideal) x w = shapeCast S2048x1536 (FloatOps.matmul dot_S2048x768_S768x1536_S2048x1536_1_0_0_1_n_n none x w
      (constant S2048x1536 .f32 0x00000000#32)) shapeCasts_S2048x1536_S2048x1536 := rfl
  rw [e, shapeCast_self]
  exact mm_at x w t c

theorem ATT_at (x : FVec Ideal S2048x768 .f32) (wq : FVec Ideal S768x768 .f32) (kv : FVec Ideal S2048x1536 .f32) (t : Fin 2048) (h : Fin 12) (c : Fin 64) :
    ATT (F := Ideal) x wq kv (ix2 t ⟨64 * h.val + c.val, by omega⟩)
      = headK (fun m : Fin 2048 => (∑ k : Fin 64, (∑ d : Fin 768, (x (ix2 t d) : EReal) * wq (ix2 d ⟨64 * h.val + k.val, by omega⟩)) * kv (ix2 m ⟨64 * h.val + k.val, by omega⟩)) * scl)
          (fun m => kv (ix2 m ⟨768 + 64 * h.val + c.val, by omega⟩)) := by
  refine (attnBlk_at (rowsOf (F := Ideal) x ⟨t.val / 256, by omega⟩) wq kv h ⟨t.val % 256, by omega⟩ c).trans ?_
  congr 1
  funext m
  congr 1
  refine Finset.sum_congr rfl fun k _ => ?_
  congr 1
  refine (mm_at (rowsOf (F := Ideal) x ⟨t.val / 256, by omega⟩) wq ⟨t.val % 256, by omega⟩ ⟨64 * h.val + k.val, by omega⟩).trans ?_
  refine Finset.sum_congr rfl fun d _ => ?_
  congr 1
  refine congrArg x (funext fun a => Fin.ext ?_)
  fin_cases a
  · show 256 * (t.val / 256) + t.val % 256 = t.val; omega
  · rfl

end Cert.Proof.Val
-- ==== Proof.KGate.lean ====
/- The kernel's gate weights read at a position: the two largest of the eight logits. -/
module

public import proofs.«01_k».proof.Proof.KNorm
public import Idealize.ShloMosaic.Lib.SortNet.Extract

@[expose] public section

noncomputable section

namespace Cert.Proof.Val

open Cert.KernelIdeal Cert.KernelIdeal.Gen Cert.Proof.KI
open Idealize.ShloMosaic Idealize.ShloMosaic.ValueIdx

/-! ## The smallest lane that meets a condition -/

theorem foldMin_eq {n : ℕ} (f : Fin n → BitVec 32) (b a : BitVec 32) (i : Fin n) (hi : f i = a) (hb : a.toInt ≤ b.toInt) (h : ∀ k, a.toInt ≤ (f k).toInt) :
    (Finset.univ : Finset (Fin n)).fold IKind.minsi.op b f = a := by
  apply BitVec.eq_of_toInt_eq
  have e := Finset.fold_hom (op := IKind.minsi.op) (op' := (min : ℤ → ℤ → ℤ)) (m := BitVec.toInt) (b := b) (f := f) (s := Finset.univ) (fun x y => SortNet.toInt_minsi x y)
  rw [← e]
  apply le_antisymm
  · rw [Finset.fold_min_le]; exact .inr ⟨i, Finset.mem_univ _, by rw [hi]⟩
  · rw [Finset.le_fold_min]; exact ⟨hb, fun k _ => h k⟩

theorem rowMin_at {M N : ℕ} (x : IVec ⟨2, ![M, N]⟩ 32) (h : (⟨2, ![M, N]⟩ : Shape).Reduces [1] ⟨1, ![M]⟩) (hacc) (r : Fin M) :
    multiReductionI .minsi [1] ⟨1, ![M]⟩ x 2147483647#32 h hacc (ix1 r) = (Finset.univ : Finset (Fin N)).fold IKind.minsi.op 2147483647#32 fun m => x (ix2 r m) := by
  refine (multiReductionI_eq_fold _ _ _ _ _ _).trans ((h.fold_filter_drop_single _ _ x (ix1 r)).trans ?_)
  exact congrArg ((Finset.univ : Finset (Fin N)).fold IKind.minsi.op 2147483647#32) (funext fun m => congrArg x (funext fun a => by fin_cases a <;> rfl))

theorem toInt_lane (n : ℕ) (h : n ≤ 128) : (BitVec.ofNat 32 n).toInt = n := by
  rw [BitVec.toInt_ofNat', Int.bmod_eq_of_le] <;> norm_num <;> omega

/-- The lane where a row first takes a value. -/
theorem firstLane (s : Fin 128 → EReal) (M : EReal) (i : Fin 128) (hi : s i = M) (h : ∀ k, s k = M → i ≤ k) :
    ((Finset.univ : Finset (Fin 128)).fold IKind.minsi.op 2147483647#32 fun k =>
      Scalar.select (Ideal.cmp .oeq (s k) M) (BitVec.ofNat 32 k.val) (128#32)) = BitVec.ofNat 32 i.val := by
  refine foldMin_eq _ _ _ i ?_ ?_ fun k => ?_
  · have : Ideal.cmp .oeq (s i) M = 1#1 := by simp [Ideal.cmp, hi]
    rw [this]; rfl
  · rw [toInt_lane _ (by omega)]
    have : (2147483647#32 : BitVec 32).toInt = 2147483647 := by decide
    omega
  · rw [toInt_lane _ (by omega)]
    by_cases hk : s k = M
    · have : Ideal.cmp .oeq (s k) M = 1#1 := by simp [Ideal.cmp, hk]
      rw [this]
      show _ ≤ (BitVec.ofNat 32 k.val).toInt
      rw [toInt_lane _ (by omega)]
      exact_mod_cast h k hk
    · have : Ideal.cmp .oeq (s k) M = 0#1 := by simp [Ideal.cmp, hk]
      rw [this]
      show _ ≤ (128#32 : BitVec 32).toInt
      have : (128#32 : BitVec 32).toInt = 128 := by decide
      omega

theorem peak_eq {n : ℕ} (s : Fin n → EReal) (i : Fin n) (h : ∀ k, s k ≤ s i) : peak s = s i :=
  le_antisymm (Finset.sup_le fun k _ => h k) (le_peak s i)

/-! ## The masked logits -/

/-- The eight logits, the other lanes the least. -/
def lane1 (l : Fin 8 → EReal) (c : Fin 128) : EReal := if h : c.val < 8 then l ⟨c.val, h⟩ else ⊥
/-- The same with the first removed. -/
def lane2 (l : Fin 8 → EReal) (i : Fin 8) (c : Fin 128) : EReal := if c.val = i.val then ⊥ else lane1 l c

/-- An expert's lane. -/
abbrev up (e : Fin 8) : Fin 128 := ⟨e.val, by omega⟩

theorem lane1_up (l : Fin 8 → EReal) (e : Fin 8) : lane1 l (up e) = l e := dif_pos e.isLt

theorem peak1 {l : Fin 8 → EReal} {i j : Fin 8} (h : Top2 l i j) : peak (lane1 l) = l i := by
  rw [← lane1_up l i]
  refine peak_eq _ _ fun c => ?_
  rw [lane1_up]
  unfold lane1
  split
  · exact h.le _
  · exact bot_le

theorem first1 {l : Fin 8 → EReal} {i j : Fin 8} (hl : ∀ e, Fin' (l e)) (h : Top2 l i j) (c : Fin 128) (hc : lane1 l c = l i) : up i ≤ c := by
  unfold lane1 at hc
  split at hc
  · rename_i hlt
    rcases eq_or_ne (⟨c.val, hlt⟩ : Fin 8) i with e | e
    · subst e; exact le_rfl
    · rcases h.first _ e with h' | h'
      · exact absurd hc h'.ne
      · exact le_of_lt h'.2
  · exact absurd hc.symm (hl i).ne_bot

theorem peak2 {l : Fin 8 → EReal} {i j : Fin 8} (h : Top2 l i j) : peak (lane2 l i) = l j := by
  have e : lane2 l i (up j) = l j := by
    unfold lane2
    rw [if_neg (fun e => h.ne (Fin.ext e.symm)), lane1_up]
  rw [← e]
  refine peak_eq _ _ fun c => ?_
  rw [e]
  unfold lane2 lane1
  split
  · exact bot_le
  · rename_i hc
    split
    · exact h.le2 _ fun e => hc (congrArg Fin.val e)
    · exact bot_le

theorem first2 {l : Fin 8 → EReal} {i j : Fin 8} (hl : ∀ e, Fin' (l e)) (h : Top2 l i j) (c : Fin 128) (hc : lane2 l i c = l j) : up j ≤ c := by
  unfold lane2 lane1 at hc
  split at hc
  · exact absurd hc.symm (hl j).ne_bot
  · rename_i hci
    split at hc
    · rename_i hlt
      rcases eq_or_ne (⟨c.val, hlt⟩ : Fin 8) j with e | e
      · subst e; exact le_rfl
      · rcases h.second _ (fun e => hci (congrArg Fin.val e)) e with h' | h'
        · exact absurd hc h'.ne
        · exact le_of_lt h'.2
    · exact absurd hc.symm (hl j).ne_bot

/-! ## The gate weights -/

theorem ofBits_zero : (Ideal.ofBits .f32 0x00000000#32 : EReal) = 0 := Ideal.ofBits_zero_f32

theorem cmp_lane (c : Fin 128) (i : Fin 8) : IntOp.cmpi .eq (BitVec.ofNat 32 c.val) (BitVec.ofNat 32 i.val) = if c.val = i.val then 1#1 else 0#1 := by
  unfold IntOp.cmpi
  by_cases h : c.val = i.val
  · rw [if_pos h, h]; simp
  · rw [if_neg h]
    have : (BitVec.ofNat 32 c.val == BitVec.ofNat 32 i.val) = false := by
      rw [beq_eq_false_iff_ne]
      intro e
      have := congrArg BitVec.toInt e
      rw [toInt_lane _ (by omega), toInt_lane _ (by omega)] at this
      exact h (by exact_mod_cast this)
    simp [this]

theorem cmp_lt8 (c : Fin 128) : IntOp.cmpi .slt (BitVec.ofNat 32 c.val) (8#32) = if c.val < 8 then 1#1 else 0#1 := by
  revert c; decide

/-- A one-column matrix repeated along the rows. -/
theorem col1Bcast_at {α : Type} {M N : ℕ} (hN : M ≠ 1) (x : (⟨2, ![M, 1]⟩ : Shape).Idx → α)
    (hb : (⟨2, ![M, 1]⟩ : Shape).Broadcasts ⟨2, ![M, N]⟩) (r : Fin M) (c : Fin N) :
    broadcastTo ⟨2, ![M, N]⟩ x hb (ix2 r c) = x (ix2 r 0) := by
  refine broadcastTo_apply _ hb (ix2 r c) (ix2 r 0) ?_
  intro a; fin_cases a
  · show r.val = if M = 1 then 0 else r.val
    rw [if_neg hN]
  · rfl

theorem asCol_at {α : Type} {M : ℕ} (x : (⟨1, ![M]⟩ : Shape).Idx → α) (h : (⟨1, ![M]⟩ : Shape).ShapeCasts ⟨2, ![M, 1]⟩) (r : Fin M) :
    shapeCast ⟨2, ![M, 1]⟩ x h (ix2 r 0) = x (ix1 r) :=
  shapeCast_apply _ _ _ _ (by simp [Shape.rowMajor_val_one, Shape.rowMajor_val_two]; rfl)

/-- The lane numbers. -/
abbrev lanes : IVec S2048x128 32 := iota .tc S2048x128 32 [1] iota_S2048x128_d1_w32
theorem lanes_at (t : Fin 2048) (c : Fin 128) : lanes (ix2 t c) = BitVec.ofNat 32 c.val := iota_single_apply _ _ _ _ _ _

/-- The largest of each row as a column, and the lane where it is first taken. -/
def maxCol (x : FVec Ideal S2048x128 .f32) : FVec Ideal S2048x1 .f32 :=
  shapeCast S2048x1 (multiReduction .maximumf [1] S2048 x 0xFF800000#32 reduces_S2048x128_S2048 (.inl rfl) rfl) shapeCasts_S2048_S2048x1
def argCol (x : FVec Ideal S2048x128 .f32) : IVec S2048x1 32 :=
  shapeCast S2048x1 (multiReductionI .minsi [1] S2048
    (select (cmpf .oeq x (broadcastTo S2048x128 (maxCol x) broadcasts_S2048x1_S2048x128)) lanes (broadcast S2048x128 128#32))
    2147483647#32 reduces_S2048x128_S2048 rfl) shapeCasts_S2048_S2048x1
/-- Where a lane is the row's first largest. -/
def hit (x : FVec Ideal S2048x128 .f32) : IVec S2048x128 1 := cmpi .eq lanes (broadcastTo S2048x128 (argCol x) broadcasts_S2048x1_S2048x128)

theorem maxCol_at (x : FVec Ideal S2048x128 .f32) (t : Fin 2048) : maxCol x (ix2 t 0) = peak fun c : Fin 128 => (x (ix2 t c) : EReal) :=
  (asCol_at _ _ t).trans (rowMax_at x _ _ _ t)

theorem argCol_at (x : FVec Ideal S2048x128 .f32) (t : Fin 2048) (i : Fin 128) (hi : (x (ix2 t i) : EReal) = peak fun c : Fin 128 => (x (ix2 t c) : EReal))
    (h : ∀ c, (x (ix2 t c) : EReal) = peak (fun c : Fin 128 => (x (ix2 t c) : EReal)) → i ≤ c) : argCol x (ix2 t 0) = BitVec.ofNat 32 i.val := by
  refine (asCol_at _ _ t).trans ((rowMin_at _ _ _ t).trans (Eq.trans ?_ (firstLane (fun c => (x (ix2 t c) : EReal)) _ i hi h)))
  refine congrArg ((Finset.univ : Finset (Fin 128)).fold IKind.minsi.op 2147483647#32) (funext fun c => ?_)
  show Scalar.select (Ideal.cmp .oeq (x (ix2 t c)) (broadcastTo S2048x128 (maxCol x) broadcasts_S2048x1_S2048x128 (ix2 t c))) (lanes (ix2 t c)) (128#32) = _
  rw [lanes_at]
  exact congrArg (fun y => Scalar.select (Ideal.cmp .oeq (x (ix2 t c)) y) (BitVec.ofNat 32 c.val) (128#32))
    ((col1Bcast_at (by decide) _ _ t c).trans (maxCol_at x t))

theorem hit_at (x : FVec Ideal S2048x128 .f32) (t : Fin 2048) (i : Fin 8) (h : argCol x (ix2 t 0) = BitVec.ofNat 32 i.val) (c : Fin 128) :
    hit x (ix2 t c) = if c.val = i.val then 1#1 else 0#1 := by
  show IntOp.cmpi .eq (lanes (ix2 t c)) (broadcastTo S2048x128 (argCol x) broadcasts_S2048x1_S2048x128 (ix2 t c)) = _
  rw [lanes_at, ← cmp_lane]
  exact congrArg _ ((col1Bcast_at (by decide) _ _ t c).trans h)

/-- The masked logits, and the same without the first largest. -/
def masked (L : FVec Ideal S2048x128 .f32) : FVec Ideal S2048x128 .f32 :=
  select (k0_pay25) L (broadcast S2048x128 (Named.named (F := Ideal) κ "mask" (φ := .f32) 0xF149F2CA#32))
def masked2 (x : FVec Ideal S2048x128 .f32) : FVec Ideal S2048x128 .f32 :=
  select (hit x) (broadcast S2048x128 (Named.named (F := Ideal) κ "mask" (φ := .f32) 0xF149F2CA#32)) x

theorem mask_eq : (Named.named (F := Ideal) κ "mask" (φ := .f32) 0xF149F2CA#32 : EReal) = ⊥ := rfl

theorem masked_at (L : FVec Ideal S2048x128 .f32) (t : Fin 2048) (l : Fin 8 → EReal) (hL : ∀ e : Fin 8, (L (ix2 t (up e)) : EReal) = l e) (c : Fin 128) :
    masked L (ix2 t c) = lane1 l c := by
  show Scalar.select (IntOp.cmpi .slt (lanes (ix2 t c)) (8#32)) (L (ix2 t c)) ⊥ = _
  rw [lanes_at, cmp_lt8]
  unfold lane1
  split
  · rename_i h; exact hL ⟨c.val, h⟩
  · rfl

theorem masked2_at (x : FVec Ideal S2048x128 .f32) (t : Fin 2048) (l : Fin 8 → EReal) (hx : ∀ c, (x (ix2 t c) : EReal) = lane1 l c) (i : Fin 8)
    (h : argCol x (ix2 t 0) = BitVec.ofNat 32 i.val) (c : Fin 128) : masked2 x (ix2 t c) = lane2 l i c := by
  show Scalar.select (hit x (ix2 t c)) ⊥ (x (ix2 t c)) = _
  rw [hit_at x t i h]
  unfold lane2
  split
  · rfl
  · exact hx c

/-- The two weights as columns. -/
def expCol (x : FVec Ideal S2048x128 .f32) : FVec Ideal S2048x1 .f32 := exp (subf (maxCol (masked2 x)) (maxCol x))
def denCol (x : FVec Ideal S2048x128 .f32) : FVec Ideal S2048x1 .f32 := addf (broadcast S2048x1 (Scalar.ofBits .f32 0x3F800000#32 : Ideal .f32)) (expCol x)

theorem exp_sub_at {s : Shape} (a b : FVec Ideal s .f32) (k : s.Idx) : exp (subf a b) k = Ideal.exp ((a k : EReal) - b k) := rfl
theorem one_add_at {s : Shape} (a : FVec Ideal s .f32) (k : s.Idx) :
    addf (broadcast s (Scalar.ofBits .f32 0x3F800000#32 : Ideal .f32)) a k = Ideal.ofBits .f32 0x3F800000#32 + (a k : EReal) := rfl
theorem expCol_at (x : FVec Ideal S2048x128 .f32) (k : S2048x1.Idx) : expCol x k = Ideal.exp ((maxCol (masked2 x) k : EReal) - maxCol x k) := by
  unfold expCol
  exact exp_sub_at _ _ k
theorem denCol_at (x : FVec Ideal S2048x128 .f32) (k : S2048x1.Idx) : denCol x k = Ideal.ofBits .f32 0x3F800000#32 + (expCol x k : EReal) := by
  unfold denCol
  exact one_add_at _ k

set_option maxRecDepth 8192 in
theorem gate_eq (L : FVec Ideal S2048x128 .f32) :
    k0_pay3 (F := Ideal) L lanes k0_pay25 = addf
      (select (hit (masked L)) (broadcastTo S2048x128 (shapeCast S2048x1 (divf (broadcast S2048x1 (Scalar.ofBits .f32 0x3F800000#32 : Ideal .f32)) (denCol (masked L))) shapeCasts_S2048x1_S2048x1) broadcasts_S2048x1_S2048x128)
        (broadcast S2048x128 (Scalar.ofBits .f32 0x00000000#32 : Ideal .f32)))
      (select (hit (masked2 (masked L))) (broadcastTo S2048x128 (shapeCast S2048x1 (divf (expCol (masked L)) (denCol (masked L))) shapeCasts_S2048x1_S2048x1) broadcasts_S2048x1_S2048x128)
        (broadcast S2048x128 (Scalar.ofBits .f32 0x00000000#32 : Ideal .f32))) := rfl

theorem gate_at (L : FVec Ideal S2048x128 .f32) (t : Fin 2048) (l : Fin 8 → EReal) (hL : ∀ e : Fin 8, (L (ix2 t (up e)) : EReal) = l e)
    (hl : ∀ e, Fin' (l e)) (i j : Fin 8) (h : Top2 l i j) (e : Fin 8) :
    k0_pay3 (F := Ideal) L lanes k0_pay25 (ix2 t (up e)) = gate l i j e := by
  rw [gate_eq, shapeCast_self, shapeCast_self]
  have hx := masked_at L t l hL
  generalize masked L = x at hx
  have hxf : (fun c : Fin 128 => (x (ix2 t c) : EReal)) = lane1 l := funext hx
  have p1 : (peak fun c : Fin 128 => (x (ix2 t c) : EReal)) = l i := by rw [hxf, peak1 h]
  have a1 : argCol x (ix2 t 0) = BitVec.ofNat 32 i.val :=
    argCol_at x t (up i) (by rw [p1, hx, lane1_up]) fun c hc => first1 hl h c (by rw [← hx, hc, p1])
  have hy := masked2_at x t l hx i a1
  have hyf : (fun c : Fin 128 => (masked2 x (ix2 t c) : EReal)) = lane2 l i := funext hy
  have p2 : (peak fun c : Fin 128 => (masked2 x (ix2 t c) : EReal)) = l j := by rw [hyf, peak2 h]
  have a2 : argCol (masked2 x) (ix2 t 0) = BitVec.ofNat 32 j.val := by
    refine argCol_at (masked2 x) t (up j) ?_ fun c hc => first2 hl h c (by rw [← hy, hc, p2])
    rw [p2, hy]
    unfold lane2
    rw [if_neg (fun e => h.ne (Fin.ext e.symm)), lane1_up]
  have hE : expCol x (ix2 t 0) = e2 l i j := by
    rw [expCol_at, maxCol_at, maxCol_at, p1, p2]; rfl
  have hD : denCol x (ix2 t 0) = 1 + e2 l i j := by
    rw [denCol_at, hE, Ideal.ofBits_one_f32]
  have g1 : broadcastTo S2048x128 (divf (broadcast S2048x1 (Scalar.ofBits .f32 0x3F800000#32 : Ideal .f32)) (denCol x)) broadcasts_S2048x1_S2048x128 (ix2 t (up e))
      = Ideal.div 1 (1 + e2 l i j) := by
    refine (col1Bcast_at (by decide) _ _ t (up e)).trans ?_
    rw [divf_apply, hD]
    exact congrArg (fun y => Ideal.div y _) Ideal.ofBits_one_f32
  have g2 : broadcastTo S2048x128 (divf (expCol x) (denCol x)) broadcasts_S2048x1_S2048x128 (ix2 t (up e)) = Ideal.div (e2 l i j) (1 + e2 l i j) := by
    refine (col1Bcast_at (by decide) _ _ t (up e)).trans ?_
    rw [divf_apply, hD, hE]
  show Scalar.select (hit x (ix2 t (up e))) _ (Ideal.ofBits .f32 0x00000000#32) + Scalar.select (hit (masked2 x) (ix2 t (up e))) _ (Ideal.ofBits .f32 0x00000000#32) = _
  rw [hit_at x t i a1, hit_at (masked2 x) t j a2, ofBits_zero, g1, g2]
  unfold gate
  by_cases hi : e = i
  · subst hi
    rw [if_pos rfl, if_neg (fun e' => h.ne (Fin.ext e')), if_pos rfl]
    show Ideal.div 1 (1 + e2 l e j) + 0 = _
    rw [add_zero]
  · rw [if_neg (fun e' => hi (Fin.ext e')), if_neg hi]
    by_cases hj : e = j
    · subst hj
      rw [if_pos rfl, if_pos rfl]
      exact zero_add _
    · rw [if_neg (fun e' => hj (Fin.ext e')), if_neg hj]
      exact zero_add _

end Cert.Proof.Val
-- ==== Proof.KMoe.lean ====
/- The kernel's experts read at a position. -/
module

public import proofs.«01_k».proof.Proof.KNorm
public import proofs.«01_k».proof.Proof.KGate
public import proofs.«01_k».proof.Proof.Region1

@[expose] public section

noncomputable section

namespace Cert.Proof.Val

open Cert.KernelIdeal Cert.KernelIdeal.Gen Cert.Proof.KI
open Idealize.ShloMosaic Idealize.ShloMosaic.ValueIdx

/-- A block with a leading axis of one, read without it. -/
theorem drop1_at {α : Type} {M N : ℕ} (x : (⟨3, ![1, M, N]⟩ : Shape).Idx → α) (h : (⟨3, ![1, M, N]⟩ : Shape).ShapeCasts ⟨2, ![M, N]⟩) (r : Fin M) (c : Fin N) :
    shapeCast ⟨2, ![M, N]⟩ x h (ix2 r c) = x (ix3 0 r c) :=
  shapeCast_apply _ _ _ _ (by rw [Shape.rowMajor_val_three, Shape.rowMajor_val_two]; show (0 * M + r.val) * N + c.val = r.val * N + c.val; rw [zero_mul, zero_add])

/-- The hidden layer before its activation, and the activation, as vectors. -/
def hidV (h : FVec Ideal S2048x768 .f32) (w1 : FVec Ideal S1x768x512 .f32) (b1 : FVec Ideal S1x1x512 .f32) : FVec Ideal S2048x512 .f32 :=
  addf (matmul dot_S2048x768_S768x512_S2048x512_1_0_0_1_n_n none h (shapeCast S768x512 w1 shapeCasts_S1x768x512_S768x512) (constant S2048x512 .f32 0x00000000#32))
    (broadcastTo S2048x512 (shapeCast S1x512 b1 shapeCasts_S1x1x512_S1x512) broadcasts_S1x512_S2048x512)
def actV {s : Shape} (a : FVec Ideal s .f32) : FVec Ideal s .f32 :=
  mulf (mulf (broadcast s (Scalar.ofBits .f32 0x3F000000#32 : Ideal .f32)) a)
    (addf (broadcast s (Scalar.ofBits .f32 0x3F800000#32 : Ideal .f32)) (erf (mulf a (broadcast s (Scalar.ofBits .f32 0x3F3504F3#32 : Ideal .f32)))))
/-- One expert applied to every token. -/
def mlpV (h : FVec Ideal S2048x768 .f32) (w1 : FVec Ideal S1x768x512 .f32) (b1 : FVec Ideal S1x1x512 .f32) (w2 : FVec Ideal S1x512x768 .f32) (b2 : FVec Ideal S1x1x768 .f32) : FVec Ideal S2048x768 .f32 :=
  addf (matmul dot_S2048x512_S512x768_S2048x768_1_0_0_1_n_n none (actV (hidV h w1 b1)) (shapeCast S512x768 w2 shapeCasts_S1x512x768_S512x768) (constant S2048x768 .f32 0x00000000#32))
    (broadcastTo S2048x768 (shapeCast S1x768 b2 shapeCasts_S1x1x768_S1x768) broadcasts_S1x768_S2048x768)
/-- An expert's gates as a column. -/
def gcolV (e : BitVec 32) (g : FVec Ideal S2048x128 .f32) : FVec Ideal S2048x768 .f32 :=
  broadcastTo S2048x768 (shapeCast S2048x1 (multiReduction .add [1] S2048
    (select (cmpi .eq lanes (broadcast S2048x128 e)) g (broadcast S2048x128 (Scalar.ofBits .f32 0x00000000#32 : Ideal .f32)))
    0x00000000#32 reduces_S2048x128_S2048 (.inl rfl) rfl) shapeCasts_S2048_S2048x1) broadcasts_S2048x1_S2048x768

theorem actV_at {s : Shape} (a : FVec Ideal s .f32) (k : s.Idx) : actV a k = gelu (a k) := by
  show (half * (a k : EReal)) * (Ideal.ofBits .f32 0x3F800000#32 + Ideal.erf ((a k : EReal) * rt)) = _
  rw [Ideal.ofBits_one_f32]
  rfl

theorem hidV_at (h : FVec Ideal S2048x768 .f32) (w1 : FVec Ideal S1x768x512 .f32) (b1 : FVec Ideal S1x1x512 .f32) (t : Fin 2048) (f : Fin 512) :
    hidV h w1 b1 (ix2 t f) = ∑ d : Fin 768, (h (ix2 t d) : EReal) * w1 (ix3 0 d f) + b1 (ix3 0 0 f) := by
  refine congrArg₂ (fun a b : EReal => a + b) ((mm_at h _ t f).trans ?_) ((rowBcast_at (by decide) _ _ t f).trans (drop1_at b1 _ 0 f))
  exact Finset.sum_congr rfl fun d _ => congrArg (fun y : EReal => (h (ix2 t d) : EReal) * y) (drop1_at w1 _ d f)

theorem mlpV_at (h : FVec Ideal S2048x768 .f32) (w1 : FVec Ideal S1x768x512 .f32) (b1 : FVec Ideal S1x1x512 .f32) (w2 : FVec Ideal S1x512x768 .f32)
    (b2 : FVec Ideal S1x1x768 .f32) (t : Fin 2048) (d : Fin 768) :
    mlpV h w1 b1 w2 b2 (ix2 t d) = mlp (fun d => h (ix2 t d)) (fun d f => w1 (ix3 0 d f)) (fun f => b1 (ix3 0 0 f)) (fun f => w2 (ix3 0 f d)) (b2 (ix3 0 0 d)) := by
  refine congrArg₂ (fun a b : EReal => a + b) ((mm_at _ _ t d).trans ?_) ((rowBcast_at (by decide) _ _ t d).trans (drop1_at b2 _ 0 d))
  refine Finset.sum_congr rfl fun f _ => congrArg₂ (fun a b : EReal => a * b) ?_ (drop1_at w2 _ f d)
  exact (actV_at _ _).trans (congrArg gelu (hidV_at h w1 b1 t f))

theorem gcolV_at (e : Fin 8) (g : FVec Ideal S2048x128 .f32) (t : Fin 2048) (d : Fin 768) :
    gcolV (BitVec.ofNat 32 e.val) g (ix2 t d) = g (ix2 t (up e)) := by
  refine (colBcast_at (by decide) _ _ _ t d).trans ((rowSum_at _ _ _ _ t).trans ?_)
  have hs : ∀ c : Fin 128, (select (cmpi .eq lanes (broadcast S2048x128 (BitVec.ofNat 32 e.val))) g (broadcast S2048x128 (Scalar.ofBits .f32 0x00000000#32 : Ideal .f32)) (ix2 t c) : EReal)
      = if c.val = e.val then (g (ix2 t c) : EReal) else 0 := fun c => by
    show Scalar.select (IntOp.cmpi .eq (lanes (ix2 t c)) (BitVec.ofNat 32 e.val)) (g (ix2 t c)) (Ideal.ofBits .f32 0x00000000#32) = _
    rw [lanes_at, cmp_lane, ofBits_zero]
    split <;> rfl
  rw [Finset.sum_congr rfl fun c _ => hs c, Finset.sum_eq_single (up e)]
  · exact if_pos rfl
  · intro c _ hc
    exact if_neg fun h => hc (Fin.ext h)
  · intro h; exact absurd (Finset.mem_univ _) h

theorem k1_pay5_eq (e : BitVec 32) (h : FVec Ideal S2048x768 .f32) (w1 : FVec Ideal S1x768x512 .f32) (b1 : FVec Ideal S1x1x512 .f32) (w2 : FVec Ideal S1x512x768 .f32)
    (b2 : FVec Ideal S1x1x768 .f32) (g : FVec Ideal S2048x128 .f32) :
    k1_pay5 (F := Ideal) e h w1 b1 w2 b2 g = mulf (gcolV e (shapeCast S2048x128 g shapeCasts_S2048x128_S2048x128)) (mlpV (k1_pay4 h) w1 b1 w2 b2) := rfl

theorem pay4_id (h : FVec Ideal S2048x768 .f32) : k1_pay4 (F := Ideal) h = h := shapeCast_self _ _

theorem k1_pay5_at (e : Fin 8) (h : FVec Ideal S2048x768 .f32) (w1 : FVec Ideal S1x768x512 .f32) (b1 : FVec Ideal S1x1x512 .f32) (w2 : FVec Ideal S1x512x768 .f32)
    (b2 : FVec Ideal S1x1x768 .f32) (g : FVec Ideal S2048x128 .f32) (t : Fin 2048) (d : Fin 768) :
    k1_pay5 (F := Ideal) (BitVec.ofNat 32 e.val) h w1 b1 w2 b2 g (ix2 t d) = (g (ix2 t (up e)) : EReal)
      * mlp (fun d => h (ix2 t d)) (fun d f => w1 (ix3 0 d f)) (fun f => b1 (ix3 0 0 f)) (fun f => w2 (ix3 0 f d)) (b2 (ix3 0 0 d)) := by
  rw [k1_pay5_eq, shapeCast_self, pay4_id]
  exact congrArg₂ (fun a b : EReal => a * b) (gcolV_at e g t d) (mlpV_at h w1 b1 w2 b2 t d)

section
variable (W : Valuation τ sig (Elt Ideal))

/-- What expert `e` adds at a position. -/
def addV (t : Fin 2048) (d : Fin 768) (e : Fin 8) : EReal := expV W e.val (ix2 t d)

theorem acc_at (t : Fin 2048) (d : Fin 768) : (accV W 7 (ix2 t d) : EReal) = (hinV W (ix2 t d) : EReal) + ∑ e : Fin 8, addV W t d e := by
  have s : ∀ n, (accV W (n + 1) (ix2 t d) : EReal) = (accV W n (ix2 t d) : EReal) + (expV W (n + 1) (ix2 t d) : EReal) := fun n => by
    show k1_pay2 (expV W (n + 1)) (accV W n) (ix2 t d) = _
    unfold k1_pay2
    rw [shapeCast_self]
    rfl
  have z : (accV W 0 (ix2 t d) : EReal) = (hinV W (ix2 t d) : EReal) + (expV W 0 (ix2 t d) : EReal) := by
    show k1_pay1 (k1_pay4 (hinV W)) (expV W 0) (ix2 t d) = _
    rw [pay4_id]
    unfold k1_pay1
    rw [shapeCast_self]
    rfl
  rw [s 6, s 5, s 4, s 3, s 2, s 1, s 0, z, Fin.sum_univ_eight]
  simp only [add_assoc]
  rfl

theorem addV_eq (t : Fin 2048) (d : Fin 768) (e : Fin 8) : addV W t d e = (ginV W (ix2 t (up e)) : EReal)
    * mlp (fun d => hinV W (ix2 t d))
      (fun d f => (W (Proc.devRef .tc (Pipeline.arrRef spec1 2)) : Vec Ideal S8x768x512 .f32) (ix3 e d f))
      (fun f => (W (Proc.devRef .tc (Pipeline.arrRef spec1 3)) : Vec Ideal S8x1x512 .f32) (ix3 e 0 f))
      (fun f => (W (Proc.devRef .tc (Pipeline.arrRef spec1 4)) : Vec Ideal S8x512x768 .f32) (ix3 e f d))
      ((W (Proc.devRef .tc (Pipeline.arrRef spec1 5)) : Vec Ideal S8x1x768 .f32) (ix3 e 0 d)) := by
  have he : expIx e.val = e := Fin.ext (by show min e.val 7 = e.val; omega)
  refine (k1_pay5_at e _ _ _ _ _ _ t d).trans ?_
  unfold w1V b1eV w2V b2eV
  rw [he]

end

end Cert.Proof.Val
-- ==== Proof.KHost.lean ====
/- The buffers the host hands to the two regions, read at a position of the arguments. -/
module

public import proofs.«01_k».proof.Proof.KMoe
public import proofs.«01_k».proof.Proof.Run
public import Idealize.ShloMosaic.Lib.KernelVsHost

@[expose] public section

noncomputable section

namespace Cert.Proof.Val

open Cert.KernelIdeal Cert.KernelIdeal.Gen Cert.Proof.KI
open Idealize.ShloMosaic Idealize.ShloMosaic.ValueIdx Idealize.ShloMosaic.TcCoe Idealize.ShloMosaic.StableHlo

/-! ## The buffers as terms of the arguments -/

section
variable (V : Valuation τ sig (Elt Ideal))

/-- The heads' matrices side by side. -/
def heads (w : FVec Ideal S12x768x64 .f32) : FVec Ideal S768x768 .f32 :=
  shapeCast S768x768 (transpose S768x12x64 [1, 0, 2] w transposes_S12x768x64_S768x12x64_1_0_2) shapeCasts_S768x12x64_S768x768

theorem v0_eq : after hostOps0 V (main_call0_v0 : DevRef τ sig) = shapeCast S2048x768 (V (main_arg0 : DevRef τ sig)) shapeCasts_S1x2048x768_S2048x768 := by
  after_results <;> rfl
theorem v2_eq : after hostOps0 V (main_call0_v2 : DevRef τ sig) = heads (V (main_arg1 : DevRef τ sig)) := by
  after_results <;> rfl
theorem v7_eq : after hostOps0 V (main_call0_v7 : DevRef τ sig)
    = concatenate S768x1536 1 [⟨S768x768, heads (V (main_arg2 : DevRef τ sig))⟩, ⟨S768x768, heads (V (main_arg3 : DevRef τ sig))⟩] concatenates_S768x768_S768x768_S768x1536_d1 := by
  after_results <;> rfl
theorem v8'_eq : after hostOps0 V (main_call0_v8 : DevRef τ sig) = shapeCast S768x768 (V (main_arg4 : DevRef τ sig)) shapeCasts_S12x64x768_S768x768 := by
  after_results <;> rfl
theorem v9_eq : after hostOps0 V (main_call0_v9 : DevRef τ sig)
    = pad S768x128 ![0, 0] ![0, 120] ![0, 0] (V (main_arg7 : DevRef τ sig)) (sitofp (F := Ideal) .f32 (constantI S_ 32 0#32)) pads_S768x8_S768x128_000_01200 h_S_ := by
  after_results <;> rfl
theorem v10_eq : after hostOps0 V (main_call0_v10 : DevRef τ sig) = shapeCast S1x768 (V (main_arg5 : DevRef τ sig)) shapeCasts_S768_S1x768 := by
  after_results <;> rfl
theorem v11_eq : after hostOps0 V (main_call0_v11 : DevRef τ sig) = shapeCast S1x768 (V (main_arg6 : DevRef τ sig)) shapeCasts_S768_S1x768 := by
  after_results <;> rfl
theorem v12_eq : after hostOps0 V (main_call0_v12 : DevRef τ sig) = shapeCast S1x768 (V (main_arg12 : DevRef τ sig)) shapeCasts_S768_S1x768 := by
  after_results <;> rfl
theorem v13_eq : after hostOps0 V (main_call0_v13 : DevRef τ sig) = shapeCast S1x768 (V (main_arg13 : DevRef τ sig)) shapeCasts_S768_S1x768 := by
  after_results <;> rfl
theorem v14_eq : after hostOps0 V (main_call0_v14 : DevRef τ sig) = shapeCast S8x1x512 (V (main_arg9 : DevRef τ sig)) shapeCasts_S8x512_S8x1x512 := by
  after_results <;> rfl
theorem v15'_eq : after hostOps0 V (main_call0_v15 : DevRef τ sig) = shapeCast S8x1x768 (V (main_arg11 : DevRef τ sig)) shapeCasts_S8x768_S8x1x768 := by
  after_results <;> rfl
theorem out_eq : after hostOps2 V (main_v0 : DevRef τ sig) = shapeCast S1x2048x768 (V (main_call0_v17 : DevRef τ sig)) shapeCasts_S2048x768_S1x2048x768 := by
  after_results <;> rfl

end

/-! ## The reshapes at a position -/

/-- A head's column among all the heads' columns. -/
def col (h : Fin 12) (k : Fin 64) : Fin 768 := ⟨64 * h.val + k.val, by omega⟩

theorem heads_at (w : FVec Ideal S12x768x64 .f32) (d : Fin 768) (h : Fin 12) (k : Fin 64) : heads w (ix2 d (col h k)) = w (ix3 h d k) := by
  refine (shapeCast_apply _ _ (ix2 d (col h k)) (ix3 d h k) ?_).trans (transpose_apply _ _ _ (ix3 d h k) (ix3 h d k) (fun b => by fin_cases b <;> rfl))
  rw [Shape.rowMajor_val_three, Shape.rowMajor_val_two]
  show (d.val * 12 + h.val) * 64 + k.val = d.val * 768 + (64 * h.val + k.val)
  omega

theorem wo_at (w : FVec Ideal S12x64x768 .f32) (h : Fin 12) (k : Fin 64) (d : Fin 768) :
    shapeCast S768x768 w shapeCasts_S12x64x768_S768x768 (ix2 (col h k) d) = w (ix3 h k d) := by
  refine shapeCast_apply _ _ (ix2 (col h k) d) (ix3 h k d) ?_
  rw [Shape.rowMajor_val_three, Shape.rowMajor_val_two]
  show (h.val * 64 + k.val) * 768 + d.val = (64 * h.val + k.val) * 768 + d.val
  omega

theorem catL_at {α : Type} {M N P : ℕ} (a b : (⟨2, ![M, N]⟩ : Shape).Idx → α) (h : Shape.Concatenates [⟨2, ![M, N]⟩, ⟨2, ![M, N]⟩] ⟨2, ![M, P]⟩ 1) (r : Fin M) (c : Fin N) (hc : c.val < P) :
    concatenate ⟨2, ![M, P]⟩ 1 [⟨⟨2, ![M, N]⟩, a⟩, ⟨⟨2, ![M, N]⟩, b⟩] h (ix2 r ⟨c.val, hc⟩) = a (ix2 r c) :=
  concatenate_pair_apply_left 1 a b h _ rfl (ix2 r c) (fun b => by fin_cases b <;> rfl)
theorem catR_at {α : Type} {M N P : ℕ} (a b : (⟨2, ![M, N]⟩ : Shape).Idx → α) (h : Shape.Concatenates [⟨2, ![M, N]⟩, ⟨2, ![M, N]⟩] ⟨2, ![M, P]⟩ 1) (r : Fin M) (c : Fin N) (hc : N + c.val < P) :
    concatenate ⟨2, ![M, P]⟩ 1 [⟨⟨2, ![M, N]⟩, a⟩, ⟨⟨2, ![M, N]⟩, b⟩] h (ix2 r ⟨N + c.val, hc⟩) = b (ix2 r c) :=
  concatenate_pair_apply_right 1 a b h _ rfl rfl (ix2 r c) (fun b hb => by fin_cases b <;> first | rfl | exact absurd rfl hb) (Nat.add_comm _ _)

theorem pad_at (w : FVec Ideal S768x8 .f32) (z : FVec Ideal S_ .f32) (d : Fin 768) (e : Fin 8) :
    pad S768x128 ![0, 0] ![0, 120] ![0, 0] w z pads_S768x8_S768x128_000_01200 h_S_ (ix2 d (up e)) = w (ix2 d e) :=
  pad_apply_of_inside _ _ _ _ _ _ _ _ _ (fun a => by
    match a with
    | ⟨0, _⟩ => show d.val = 0 + d.val * (0 + 1); omega
    | ⟨1, _⟩ => show e.val = 0 + e.val * (0 + 1); omega)

theorem mid1_at {α : Type} {M N : ℕ} (x : (⟨2, ![M, N]⟩ : Shape).Idx → α) (h : (⟨2, ![M, N]⟩ : Shape).ShapeCasts ⟨3, ![M, 1, N]⟩) (r : Fin M) (c : Fin N) :
    shapeCast ⟨3, ![M, 1, N]⟩ x h (ix3 r 0 c) = x (ix2 r c) :=
  shapeCast_apply _ _ _ _ (by rw [Shape.rowMajor_val_three, Shape.rowMajor_val_two]; show r.val * N + c.val = (r.val * 1 + 0) * N + c.val; rw [mul_one, add_zero])

theorem kLead_at (z : FVec Ideal S2048x768 .f32) (t : Fin 2048) (d : Fin 768) : shapeCast S1x2048x768 z shapeCasts_S2048x768_S1x2048x768 (ix3 0 t d) = z (ix2 t d) :=
  shapeCast_apply _ _ _ _ (by rw [Shape.rowMajor_val_three, Shape.rowMajor_val_two]; show t.val * 768 + d.val = (0 * 2048 + t.val) * 768 + d.val; rw [zero_mul, zero_add])

/-! ## The kernel's result at a position -/

section
variable (m : (ℓ : Loc nD τ sig) → Buf (Elt Ideal) ℓ) (c : Dev nD)

/-- The arguments. -/
abbrev k0 : FVec Ideal S1x2048x768 .f32 := V0 m c (main_arg0 : DevRef τ sig)
abbrev k1 : FVec Ideal S12x768x64 .f32 := V0 m c (main_arg1 : DevRef τ sig)
abbrev k2 : FVec Ideal S12x768x64 .f32 := V0 m c (main_arg2 : DevRef τ sig)
abbrev k3 : FVec Ideal S12x768x64 .f32 := V0 m c (main_arg3 : DevRef τ sig)
abbrev k4 : FVec Ideal S12x64x768 .f32 := V0 m c (main_arg4 : DevRef τ sig)
abbrev k5 : FVec Ideal S768 .f32 := V0 m c (main_arg5 : DevRef τ sig)
abbrev k6 : FVec Ideal S768 .f32 := V0 m c (main_arg6 : DevRef τ sig)
abbrev k7 : FVec Ideal S768x8 .f32 := V0 m c (main_arg7 : DevRef τ sig)
abbrev k8 : FVec Ideal S8x768x512 .f32 := V0 m c (main_arg8 : DevRef τ sig)
abbrev k9 : FVec Ideal S8x512 .f32 := V0 m c (main_arg9 : DevRef τ sig)
abbrev k10 : FVec Ideal S8x512x768 .f32 := V0 m c (main_arg10 : DevRef τ sig)
abbrev k11 : FVec Ideal S8x768 .f32 := V0 m c (main_arg11 : DevRef τ sig)
abbrev k12 : FVec Ideal S768 .f32 := V0 m c (main_arg12 : DevRef τ sig)
abbrev k13 : FVec Ideal S768 .f32 := V0 m c (main_arg13 : DevRef τ sig)

theorem xV_at (t : Fin 2048) (d : Fin 768) : xV (w1 m c) (ix2 t d) = k0 m c (ix3 0 t d) :=
  (congrFun (v0_eq (V0 m c)) (ix2 t d)).trans (drop1_at _ _ t d)
theorem wqV_at (d : Fin 768) (h : Fin 12) (k : Fin 64) : wqV (w1 m c) (ix2 d (col h k)) = k1 m c (ix3 h d k) :=
  (congrFun (v2_eq (V0 m c)) _).trans (heads_at _ d h k)
theorem wkvK_at (d : Fin 768) (h : Fin 12) (k : Fin 64) : wkvV (w1 m c) (ix2 d ⟨64 * h.val + k.val, by omega⟩) = k2 m c (ix3 h d k) :=
  (congrFun (v7_eq (V0 m c)) _).trans ((catL_at _ _ _ d (col h k) _).trans (heads_at _ d h k))
theorem wkvV_at (d : Fin 768) (h : Fin 12) (k : Fin 64) : wkvV (w1 m c) (ix2 d ⟨768 + (64 * h.val + k.val), by omega⟩) = k3 m c (ix3 h d k) :=
  (congrFun (v7_eq (V0 m c)) _).trans ((catR_at _ _ _ d (col h k) _).trans (heads_at _ d h k))
theorem woV_at (h : Fin 12) (k : Fin 64) (d : Fin 768) : woV (w1 m c) (ix2 (col h k) d) = k4 m c (ix3 h k d) :=
  (congrFun (v8'_eq (V0 m c)) _).trans (wo_at _ h k d)
theorem g1V_at (d : Fin 768) : g1V (w1 m c) (ix2 0 d) = k5 m c (ix1 d) :=
  (congrFun (v10_eq (V0 m c)) _).trans (asRow_at _ _ d)
theorem b1V_at (d : Fin 768) : b1V (w1 m c) (ix2 0 d) = k6 m c (ix1 d) :=
  (congrFun (v11_eq (V0 m c)) _).trans (asRow_at _ _ d)
theorem wgV_at (d : Fin 768) (e : Fin 8) : wgV (w1 m c) (ix2 d (up e)) = k7 m c (ix2 d e) :=
  (congrFun (v9_eq (V0 m c)) _).trans (pad_at _ _ d e)

theorem w2_keep (r : Ref sig .tc) (h0 : r ≠ main_call0_v16_0) (h1 : r ≠ main_call0_v16_1) (h2 : r ∉ hostOps0_W) : w2 m c r = V0 m c r :=
  (w2_of m c r h0 h1).trans (V1_of m c r h2)

theorem w1E_at (e : Fin 8) (d : Fin 768) (f : Fin 512) : (w2 m c (Proc.devRef .tc (Pipeline.arrRef spec1 2)) : Vec Ideal S8x768x512 .f32) (ix3 e d f) = k8 m c (ix3 e d f) :=
  congrFun (w2_keep m c main_arg8 (by decide) (by decide) (by decide)) _
theorem b1E_at (e : Fin 8) (f : Fin 512) : (w2 m c (Proc.devRef .tc (Pipeline.arrRef spec1 3)) : Vec Ideal S8x1x512 .f32) (ix3 e 0 f) = k9 m c (ix2 e f) :=
  (congrFun ((w2_of m c main_call0_v14 (by decide) (by decide)).trans (v14_eq (V0 m c))) _).trans (mid1_at _ _ e f)
theorem w2E_at (e : Fin 8) (f : Fin 512) (d : Fin 768) : (w2 m c (Proc.devRef .tc (Pipeline.arrRef spec1 4)) : Vec Ideal S8x512x768 .f32) (ix3 e f d) = k10 m c (ix3 e f d) :=
  congrFun (w2_keep m c main_arg10 (by decide) (by decide) (by decide)) _
theorem b2E_at (e : Fin 8) (d : Fin 768) : (w2 m c (Proc.devRef .tc (Pipeline.arrRef spec1 5)) : Vec Ideal S8x1x768 .f32) (ix3 e 0 d) = k11 m c (ix2 e d) :=
  (congrFun ((w2_of m c main_call0_v15 (by decide) (by decide)).trans (v15'_eq (V0 m c))) _).trans (mid1_at _ _ e d)
theorem g2V_at (d : Fin 768) : g2V (w2 m c) (ix2 0 d) = k12 m c (ix1 d) :=
  (congrFun ((w2_of m c main_call0_v12 (by decide) (by decide)).trans (v12_eq (V0 m c))) _).trans (asRow_at _ _ d)
theorem be2V_at (d : Fin 768) : be2V (w2 m c) (ix2 0 d) = k13 m c (ix1 d) :=
  (congrFun ((w2_of m c main_call0_v13 (by decide) (by decide)).trans (v13_eq (V0 m c))) _).trans (asRow_at _ _ d)

/-- One component of a projected token, and (`kDot`) the product of two projected tokens under a head. -/
def kComp (x : FVec Ideal S1x2048x768 .f32) (w : FVec Ideal S12x768x64 .f32) (h : Fin 12) (t : Fin 2048) (k : Fin 64) : EReal :=
  ∑ d : Fin 768, (x (ix3 0 t d) : EReal) * w (ix3 h d k)
def kDot (x : FVec Ideal S1x2048x768 .f32) (wq wk : FVec Ideal S12x768x64 .f32) (h : Fin 12) (t m : Fin 2048) : EReal :=
  ∑ k : Fin 64, kComp x wq h t k * kComp x wk h m k

theorem kvK_at (h : Fin 12) (t : Fin 2048) (k : Fin 64) : kvV (w1 m c) (ix2 t ⟨64 * h.val + k.val, by omega⟩) = kComp (k0 m c) (k2 m c) h t k :=
  (k0_pay1_at _ _ t _).trans (Finset.sum_congr rfl fun d _ => congrArg₂ (fun a b : EReal => a * b) (xV_at m c t d) (wkvK_at m c d h k))
theorem kvV_at (h : Fin 12) (t : Fin 2048) (k : Fin 64) : kvV (w1 m c) (ix2 t ⟨768 + (64 * h.val + k.val), by omega⟩) = kComp (k0 m c) (k3 m c) h t k :=
  (k0_pay1_at _ _ t _).trans (Finset.sum_congr rfl fun d _ => congrArg₂ (fun a b : EReal => a * b) (xV_at m c t d) (wkvV_at m c d h k))

/-- One token's head, in the kernel's form. -/
def kHead (h : Fin 12) (k : Fin 64) (t : Fin 2048) : EReal :=
  headK (fun m' => kDot (k0 m c) (k1 m c) (k2 m c) h t m' * scl) (fun m' => kComp (k0 m c) (k3 m c) h m' k)

theorem attV_at (t : Fin 2048) (h : Fin 12) (k : Fin 64) : attV (w1 m c) (ix2 t (col h k)) = kHead m c h k t := by
  refine (ATT_at _ _ _ t h k).trans (congrArg₂ headK (funext fun m' => ?_) (funext fun m' => ?_))
  · refine congrArg (fun y : EReal => y * scl) (Finset.sum_congr rfl fun k' _ => congrArg₂ (fun a b : EReal => a * b) ?_ (kvK_at m c h m' k'))
    exact Finset.sum_congr rfl fun d _ => congrArg₂ (fun a b : EReal => a * b) (xV_at m c t d) (wqV_at m c d h k')
  · refine (congrArg (fun q => kvV (w1 m c) (ix2 m' q)) (Fin.ext ?_)).trans (kvV_at m c h m' k)
    show 768 + 64 * h.val + k.val = 768 + (64 * h.val + k.val)
    omega

/-- A sum over all the heads' columns is the sum over the heads and their columns. -/
theorem sum_col (f : Fin 768 → EReal) : ∑ q, f q = ∑ h : Fin 12, ∑ k : Fin 64, f (col h k) := by
  rw [← Fintype.sum_prod_type' (f := fun (h : Fin 12) (k : Fin 64) => f (col h k)), ← Equiv.sum_comp (finProdFinEquiv (m := 12) (n := 64)) f]
  refine Finset.sum_congr rfl fun p _ => congrArg f (Fin.ext ?_)
  show p.2.val + 64 * p.1.val = 64 * p.1.val + p.2.val
  omega

/-- The token with its attention added. -/
def kZ (d : Fin 768) (t : Fin 2048) : EReal := (k0 m c (ix3 0 t d) : EReal) + ∑ h : Fin 12, ∑ k : Fin 64, kHead m c h k t * k4 m c (ix3 h k d)
/-- The token after the first normalisation, and (`kL`) its logits. -/
def kH (t : Fin 2048) (d : Fin 768) : EReal := bn (kZ m c d) (k5 m c (ix1 d)) (k6 m c (ix1 d)) t
def kL (t : Fin 2048) (e : Fin 8) : EReal := ∑ d : Fin 768, kH m c t d * k7 m c (ix2 d e)

theorem h23_at (t : Fin 2048) (d : Fin 768) :
    k0_pay23 (F := Ideal) (xV (w1 m c)) (attV (w1 m c)) (woV (w1 m c)) (g1V (w1 m c)) (b1V (w1 m c)) (ix2 t d) = kH m c t d := by
  refine (k0_pay23_at _ _ _ _ _ t d).trans ?_
  unfold kH
  rw [g1V_at, b1V_at]
  refine congrArg (fun z => bn z (k5 m c (ix1 d)) (k6 m c (ix1 d)) t) (funext fun t => ?_)
  refine congrArg₂ (fun a b : EReal => a + b) (xV_at m c t d) ((sum_col _).trans ?_)
  exact Finset.sum_congr rfl fun h _ => Finset.sum_congr rfl fun k _ => congrArg₂ (fun a b : EReal => a * b) (attV_at m c t h k) (woV_at m c h k d)

theorem hV_at (t : Fin 2048) (d : Fin 768) : hV (w1 m c) (ix2 t d) = kH m c t d := h23_at m c t d

theorem gateV_at (t : Fin 2048) (hl : ∀ e, Fin' (kL m c t e)) (i j : Fin 8) (h : Top2 (kL m c t) i j) (e : Fin 8) :
    gateV (w1 m c) (ix2 t (up e)) = gate (kL m c t) i j e := by
  refine gate_at _ t (kL m c t) (fun e => ?_) hl i j h e
  refine (k0_pay24_at _ _ _ _ _ _ t (up e)).trans ?_
  exact Finset.sum_congr rfl fun d _ => congrArg₂ (fun a b : EReal => a * b) (h23_at m c t d) (wgV_at m c d e)

theorem hinV_at (t : Fin 2048) (d : Fin 768) : hinV (w2 m c) (ix2 t d) = kH m c t d :=
  (congrFun (w2_h m c) _).trans (hV_at m c t d)
theorem ginV_eq : ginV (w2 m c) = gateV (w1 m c) := w2_g m c

theorem mlp_congr {h h' : Fin 768 → EReal} {w1 w1' : Fin 768 → Fin 512 → EReal} {b1 b1' w2 w2' : Fin 512 → EReal} (eh : ∀ d, h d = h' d)
    (ew1 : ∀ d f, w1 d f = w1' d f) (eb1 : ∀ f, b1 f = b1' f) (ew2 : ∀ f, w2 f = w2' f) (b2 : EReal) : mlp h w1 b1 w2 b2 = mlp h' w1' b1' w2' b2 := by
  rw [funext eh, funext eb1, funext ew2, funext fun d => funext (ew1 d)]

/-- One expert's output for a token. -/
def kMlp (t : Fin 2048) (d : Fin 768) (e : Fin 8) : EReal :=
  mlp (kH m c t) (fun d f => k8 m c (ix3 e d f)) (fun f => k9 m c (ix2 e f)) (fun f => k10 m c (ix3 e f d)) (k11 m c (ix2 e d))

theorem acc7_at (t : Fin 2048) (hl : ∀ e, Fin' (kL m c t e)) (i j : Fin 8) (h : Top2 (kL m c t) i j) (d : Fin 768) :
    (accV (w2 m c) 7 (ix2 t d) : EReal) = kH m c t d + ∑ e : Fin 8, gate (kL m c t) i j e * kMlp m c t d e := by
  refine (acc_at (w2 m c) t d).trans (congrArg₂ (fun a b : EReal => a + b) (hinV_at m c t d) (Finset.sum_congr rfl fun e _ => ?_))
  refine (addV_eq (w2 m c) t d e).trans (congrArg₂ (fun a b : EReal => a * b) ?_ ?_)
  · exact (congrFun (ginV_eq m c) _).trans (gateV_at m c t hl i j h e)
  · unfold kMlp
    rw [b2E_at]
    exact mlp_congr (fun d => hinV_at m c t d) (fun d f => w1E_at m c e d f) (fun f => b1E_at m c e f) (fun f => w2E_at m c e f d) _

/-- The kernel's result, the two best experts of each token being `i` and `j`. -/
theorem out_at (hl : ∀ t e, Fin' (kL m c t e)) (i j : Fin 2048 → Fin 8) (h : ∀ t, Top2 (kL m c t) (i t) (j t)) (t : Fin 2048) (d : Fin 768) :
    (w4 m c main_v0 : FVec Ideal S1x2048x768 .f32) (ix3 0 t d)
      = bn (fun t => kH m c t d + ∑ e : Fin 8, gate (kL m c t) (i t) (j t) e * kMlp m c t d e) (k12 m c (ix1 d)) (k13 m c (ix1 d)) t := by
  refine (congrFun (out_eq (w3 m c)) _).trans ((kLead_at _ t d).trans ?_)
  refine (congrFun (w3_y m c) _).trans ((k1_pay3_at _ _ _ t d).trans ?_)
  rw [g2V_at, be2V_at]
  exact congrArg (fun z => bn z (k12 m c (ix1 d)) (k13 m c (ix1 d)) t) (funext fun t => acc7_at m c t (hl t) (i t) (j t) (h t) d)

end

end Cert.Proof.Val
-- ==== Proof.RNorm.lean ====
/- The reference's normalisation read at a position. -/
module

public import proofs.«01_k».proof.Proof.Gen.ReferenceIdeal.Run
public import proofs.«01_k».proof.Proof.Spec
public import Idealize.ShloMosaic.Lib.KernelVsHost
public import Idealize.ShloMosaic.Lib.Pipeline.Value

@[expose] public section

noncomputable section

namespace Cert.Proof.Val

open Cert.ReferenceIdeal Cert.ReferenceIdeal.Gen Cert.ReferenceIdeal.Value
open Idealize.ShloMosaic Idealize.ShloMosaic.ValueIdx Idealize.ShloMosaic.TcCoe

theorem red0 : S2048x768.Reduces [0] S768 := by decide

/-- The sum of each column. -/
def rSum (z : FVec Ideal S2048x768 .f32) : FVec Ideal S768 .f32 := Host.reduceAdd z (constant S_ .f32 0x00000000#32) reducesTo_S2048x768_S768_d0 h_S_
/-- A row repeated down the columns. -/
def rRow (v : FVec Ideal S768 .f32) : FVec Ideal S2048x768 .f32 :=
  broadcastInDim S2048x768 ![0, 1] bcast_S1x768_S2048x768_0_1 (broadcastInDim S1x768 ![1] bcast_S768_S1x768_1 v)
def rDev (z : FVec Ideal S2048x768 .f32) : FVec Ideal S2048x768 .f32 :=
  subf z (rRow (Host.divf (rSum z) (broadcastInDim S768 ![] bcast_S_S768 (constant S_ .f32 0x45000000#32))))
def rDev' (z : FVec Ideal S2048x768 .f32) : FVec Ideal S2048x768 .f32 :=
  subf z (broadcastInDim S2048x768 ![0, 1] bcast_S1x768_S2048x768_0_1 (Host.divf (broadcastInDim S1x768 ![1] bcast_S768_S1x768_1 (rSum z))
    (broadcastInDim S1x768 ![] bcast_S_S1x768 (constant S_ .f32 0x45000000#32))))
/-- The number of rows, as the variance counts it. -/
def rCnt : FVec Ideal S_ .f32 := subf (constant S_ .f32 0x45000000#32) (sitofp .f32 (constantI S_ 32 0#32))
def rVar (z : FVec Ideal S2048x768 .f32) : FVec Ideal S768 .f32 :=
  addf (select (broadcastInDim S768 ![] bcast_S_S768 (cmpf .ogt rCnt (constant S_ .f32 0x00000000#32)))
      (Host.divf (rSum (mulf (rDev' z) (rDev' z))) (broadcastInDim S768 ![] bcast_S_S768 rCnt))
      (broadcastInDim S768 ![] bcast_S_S768 (id (constant S_ .f32 0x7FC00000#32))))
    (broadcastInDim S768 ![] bcast_S_S768 (constant S_ .f32 0x3727C5AC#32))
/-- The normalisation of every column. -/
def rNorm (z : FVec Ideal S2048x768 .f32) (g b : FVec Ideal S768 .f32) : FVec Ideal S2048x768 .f32 :=
  addf (mulf (Host.divf (rDev z) (rRow (Host.sqrt (rVar z)))) (rRow g)) (rRow b)

theorem rSum_at (z : FVec Ideal S2048x768 .f32) (d : Fin 768) : rSum z (ix1 d) = ∑ t : Fin 2048, (z (ix2 t d) : EReal) := by
  unfold rSum
  rw [hostReduceAdd_apply]
  refine (Ideal.hostReduceAdd_single _ red0 z _ _).trans ?_
  show Ideal.ofBits .f32 0x00000000#32 + _ = _
  rw [Ideal.ofBits_zero_f32, zero_add]
  exact Finset.sum_congr rfl fun m _ => congrArg z (funext fun a => by fin_cases a <;> rfl)

theorem up1_at (v : FVec Ideal S768 .f32) (d : Fin 768) : broadcastInDim S1x768 ![1] bcast_S768_S1x768_1 v (ix2 0 d) = v (ix1 d) :=
  broadcastInDim_apply _ _ _ _ _ (fun a => by fin_cases a; rfl)
theorem down_at (v : FVec Ideal S1x768 .f32) (t : Fin 2048) (d : Fin 768) : broadcastInDim S2048x768 ![0, 1] bcast_S1x768_S2048x768_0_1 v (ix2 t d) = v (ix2 0 d) :=
  broadcastInDim_apply _ _ _ _ _ (fun a => by fin_cases a <;> rfl)
theorem rRow_at (v : FVec Ideal S768 .f32) (t : Fin 2048) (d : Fin 768) : rRow v (ix2 t d) = v (ix1 d) := (down_at _ t d).trans (up1_at v d)

theorem rDev_at (z : FVec Ideal S2048x768 .f32) (t : Fin 2048) (d : Fin 768) : rDev z (ix2 t d) = dev (fun t => z (ix2 t d)) t := by
  refine congrArg (fun y : EReal => (z (ix2 t d) : EReal) - y) ((rRow_at _ t d).trans ?_)
  exact congrArg₂ Ideal.div (rSum_at z d) (broadcastInDim_scalar_apply bcast_S_S768 _ (ix1 d))
theorem rDev'_at (z : FVec Ideal S2048x768 .f32) (t : Fin 2048) (d : Fin 768) : rDev' z (ix2 t d) = dev (fun t => z (ix2 t d)) t := by
  refine congrArg (fun y : EReal => (z (ix2 t d) : EReal) - y) ((down_at _ t d).trans ?_)
  exact congrArg₂ Ideal.div ((up1_at _ d).trans (rSum_at z d)) (broadcastInDim_scalar_apply bcast_S_S1x768 _ (ix2 0 d))

theorem rCnt_at (k : S_.Idx) : (rCnt k : EReal) = cnt := by
  show cnt - (((0#32 : BitVec 32).toInt : ℝ) : EReal) = cnt
  simp

theorem rCnt_pos : cmpf .ogt rCnt (constant S_ .f32 0x00000000#32) ix0 = 1#1 := by
  show Ideal.cmp .ogt (rCnt ix0) (Ideal.ofBits .f32 0x00000000#32) = 1#1
  rw [rCnt_at, Ideal.ofBits_zero_f32, cnt_eq]
  show BitVec.ofBool (decide ((0 : EReal) < ((2048 : ℝ) : EReal))) = 1#1
  rw [decide_eq_true (by exact_mod_cast (by norm_num : (0 : ℝ) < 2048))]
  rfl

theorem rVar_at (z : FVec Ideal S2048x768 .f32) (d : Fin 768) : rVar z (ix1 d) = colVar (fun t => z (ix2 t d)) := by
  have h1 : broadcastInDim S768 ![] bcast_S_S768 (cmpf .ogt rCnt (constant S_ .f32 0x00000000#32)) (ix1 d) = 1#1 :=
    (broadcastInDim_scalar_apply bcast_S_S768 _ (ix1 d)).trans rCnt_pos
  have h2 : (Host.divf (rSum (mulf (rDev' z) (rDev' z))) (broadcastInDim S768 ![] bcast_S_S768 rCnt) (ix1 d) : EReal)
      = Ideal.div (∑ t, dev (fun t => z (ix2 t d)) t * dev (fun t => z (ix2 t d)) t) cnt := by
    refine congrArg₂ Ideal.div ((rSum_at _ d).trans ?_) ((broadcastInDim_scalar_apply bcast_S_S768 _ (ix1 d)).trans (rCnt_at _))
    exact Finset.sum_congr rfl fun t _ => congrArg₂ (fun a b : EReal => a * b) (rDev'_at z t d) (rDev'_at z t d)
  refine congrArg₂ (fun a b : EReal => a + b) ?_ (broadcastInDim_scalar_apply bcast_S_S768 _ (ix1 d))
  rw [select_apply, h1]
  exact h2

theorem rNorm_at (z : FVec Ideal S2048x768 .f32) (g b : FVec Ideal S768 .f32) (t : Fin 2048) (d : Fin 768) :
    rNorm z g b (ix2 t d) = bn (fun t => z (ix2 t d)) (g (ix1 d)) (b (ix1 d)) t := by
  rw [← bn_eq]
  refine congrArg₂ (fun a b : EReal => a + b) (congrArg₂ (fun a b : EReal => a * b) ?_ (rRow_at g t d)) (rRow_at b t d)
  exact congrArg₂ Ideal.div (rDev_at z t d) ((rRow_at _ t d).trans (congrArg Ideal.sqrt (rVar_at z d)))

section
variable (V0 : Valuation τ sig (Elt Ideal))

theorem v43_eq : res_main_v43 V0 = shapeCast S1x2048x768 (rNorm (res_main_v23 V0) (V0 (Proc.devRef .tc main_arg5)) (V0 (Proc.devRef .tc main_arg6))) shapeCasts_S2048x768_S1x2048x768 := rfl

/-- A block and the same block with a leading axis of one. -/
theorem lead_at (z : FVec Ideal S2048x768 .f32) (t : Fin 2048) (d : Fin 768) : shapeCast S1x2048x768 z shapeCasts_S2048x768_S1x2048x768 (ix3 0 t d) = z (ix2 t d) :=
  shapeCast_apply _ _ _ _ (by rw [Shape.rowMajor_val_three, Shape.rowMajor_val_two]; show t.val * 768 + d.val = (0 * 2048 + t.val) * 768 + d.val; rw [zero_mul, zero_add])
theorem unlead_at (z : FVec Ideal S1x2048x768 .f32) (t : Fin 2048) (d : Fin 768) : shapeCast S2048x768 z shapeCasts_S1x2048x768_S2048x768 (ix2 t d) = z (ix3 0 t d) :=
  shapeCast_apply _ _ _ _ (by rw [Shape.rowMajor_val_three, Shape.rowMajor_val_two]; show (0 * 2048 + t.val) * 768 + d.val = t.val * 768 + d.val; rw [zero_mul, zero_add])

theorem v43_at (t : Fin 2048) (d : Fin 768) : res_main_v43 V0 (ix3 0 t d) = rNorm (res_main_v23 V0) (V0 (Proc.devRef .tc main_arg5)) (V0 (Proc.devRef .tc main_arg6)) (ix2 t d) := by
  rw [v43_eq]; exact lead_at _ t d
theorem v44_at (t : Fin 2048) (d : Fin 768) : res_main_v44 V0 (ix2 t d) = rNorm (res_main_v23 V0) (V0 (Proc.devRef .tc main_arg5)) (V0 (Proc.devRef .tc main_arg6)) (ix2 t d) := by
  unfold res_main_v44
  exact (unlead_at _ t d).trans (v43_at V0 t d)

end

end Cert.Proof.Val
-- ==== Proof.RAttn.lean ====
/- The reference's attention read at a position. -/
module

public import proofs.«01_k».proof.Proof.RNorm
public import Idealize.ShloMosaic.Lib.TwoAxisContraction

@[expose] public section

noncomputable section

namespace Cert.Proof.Val

open Cert.ReferenceIdeal Cert.ReferenceIdeal.Gen Cert.ReferenceIdeal.Value
open Idealize.ShloMosaic Idealize.ShloMosaic.ValueIdx Idealize.ShloMosaic.TcCoe

abbrev dotP := dot_S12x768x64_S1x2048x768_S12x64x1x2048_1_2_02_01_n_n
abbrev dotS := dot_S1x12x2048x64_S1x12x2048x64_S1x12x2048x2048_3_3_2_2_01_01
abbrev dotA := dot_S1x12x2048x2048_S1x12x2048x64_S1x12x2048x64_3_2_2_3_01_01
abbrev dotO := dot_S1x12x2048x64_S12x64x768_S1x2048x768_13_01_02_2_n_n

/-- The projection of every token by every head. -/
def rProj (w : FVec Ideal S12x768x64 .f32) (x : FVec Ideal S1x2048x768 .f32) : FVec Ideal S1x12x2048x64 .f32 :=
  transpose S1x12x2048x64 [2, 0, 3, 1] (Host.dotGeneral dotP none w x) transposes_S12x64x1x2048_S1x12x2048x64_2_0_3_1
def rScore (q k : FVec Ideal S1x12x2048x64 .f32) : FVec Ideal S1x12x2048x2048 .f32 :=
  Host.divf (Host.dotGeneral dotS none q k) (broadcastInDim S1x12x2048x2048 ![] bcast_S_S1x12x2048x2048 (constant S_ .f32 0x41000000#32))
/-- One number per head and token, repeated along a row of scores. -/
def rAlong (v : FVec Ideal S1x12x2048 .f32) : FVec Ideal S1x12x2048x2048 .f32 :=
  broadcastInDim S1x12x2048x2048 ![0, 1, 2, 3] bcast_S1x12x2048x1_S1x12x2048x2048_0_1_2_3 (broadcastInDim S1x12x2048x1 ![0, 1, 2] bcast_S1x12x2048_S1x12x2048x1_0_1_2 v)
def rPeak (s : FVec Ideal S1x12x2048x2048 .f32) : FVec Ideal S1x12x2048 .f32 :=
  Host.reduce FloatOps.maximumf s (constant S_ .f32 0xFF800000#32) reducesTo_S1x12x2048x2048_S1x12x2048_d3 h_S_
def rWt (s : FVec Ideal S1x12x2048x2048 .f32) : FVec Ideal S1x12x2048x2048 .f32 :=
  Host.exp (subf s (rAlong (maximumf (broadcastInDim S1x12x2048 ![] bcast_S_S1x12x2048 (constant S_ .f32 0xFF800000#32)) (rPeak s))))
def rTot (p : FVec Ideal S1x12x2048x2048 .f32) : FVec Ideal S1x12x2048 .f32 :=
  Host.reduceAdd p (constant S_ .f32 0x00000000#32) reducesTo_S1x12x2048x2048_S1x12x2048_d3 h_S_
def rMix (p : FVec Ideal S1x12x2048x2048 .f32) (v : FVec Ideal S1x12x2048x64 .f32) : FVec Ideal S1x12x2048x64 .f32 :=
  Host.dotGeneral dotA none (Host.divf p (rAlong (rTot p))) v

theorem redS : S1x12x2048x2048.Reduces [3] S1x12x2048 := by decide

theorem rProj_at (w : FVec Ideal S12x768x64 .f32) (x : FVec Ideal S1x2048x768 .f32) (h : Fin 12) (t : Fin 2048) (k : Fin 64) :
    rProj w x (ix4 0 h t k) = ∑ d : Fin 768, (x (ix3 0 t d) : EReal) * w (ix3 h d k) := by
  refine (transpose_apply _ _ _ (ix4 0 h t k) (ix4 h k 0 t) (fun b => by fin_cases b <;> rfl)).trans ?_
  refine (Ideal.dotGeneral_apply dotP none _ w x _).trans ?_
  rw [← Equiv.sum_comp (contrEquiv1 dotP 768 rfl rfl).symm]
  refine Finset.sum_congr rfl fun d _ => ?_
  have hk := contrEquiv1_symm_val dotP 768 rfl rfl d
  rw [mul_comm]
  refine congrArg₂ (fun a b : EReal => a * b) (congrArg x ?_) (congrArg w ?_)
  · funext a; apply Fin.ext
    match a with
    | ⟨0, _⟩ => rfl
    | ⟨1, _⟩ => rfl
    | ⟨2, _⟩ => exact hk
  · funext a; apply Fin.ext
    match a with
    | ⟨0, _⟩ => rfl
    | ⟨1, _⟩ => exact hk
    | ⟨2, _⟩ => rfl

theorem rScore_at (q k : FVec Ideal S1x12x2048x64 .f32) (h : Fin 12) (t m : Fin 2048) :
    rScore q k (ix4 0 h t m) = Ideal.div (∑ c : Fin 64, (q (ix4 0 h t c) : EReal) * k (ix4 0 h m c)) (Ideal.ofBits .f32 0x41000000#32) := by
  refine congrArg₂ Ideal.div ?_ (broadcastInDim_scalar_apply bcast_S_S1x12x2048x2048 _ _)
  refine (Ideal.dotGeneral_apply dotS none _ q k _).trans ?_
  rw [← Equiv.sum_comp (contrEquiv1 dotS 64 rfl rfl).symm]
  refine Finset.sum_congr rfl fun d _ => ?_
  have hk := contrEquiv1_symm_val dotS 64 rfl rfl d
  refine congrArg₂ (fun a b : EReal => a * b) (congrArg q ?_) (congrArg k ?_)
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => rfl
    | ⟨3, _⟩ => exact hk

theorem rAlong_at (v : FVec Ideal S1x12x2048 .f32) (h : Fin 12) (t m : Fin 2048) : rAlong v (ix4 0 h t m) = v (ix3 0 h t) :=
  (broadcastInDim_apply _ _ _ _ (ix4 0 h t 0) (fun a => by fin_cases a <;> rfl)).trans (broadcastInDim_apply _ _ _ _ (ix3 0 h t) (fun a => by fin_cases a <;> rfl))

theorem ofBits_ninf' : Ideal.ofBits .f32 0xFF800000#32 = ⊥ := by simp [Ideal.ofBits, Ideal.ieee]

/-- The largest along the last of four axes. -/
theorem last4_max {A B M N : ℕ} (x : FVec Ideal ⟨4, ![A, B, M, N]⟩ .f32) {u : Shape} (h : (⟨4, ![A, B, M, N]⟩ : Shape).ReducesTo [3] ⟨3, ![A, B, M]⟩)
    (h' : (⟨4, ![A, B, M, N]⟩ : Shape).Reduces [3] ⟨3, ![A, B, M]⟩) (hu : 0 < u.numel) (a : Fin A) (b : Fin B) (r : Fin M) :
    Host.reduce FloatOps.maximumf x (constant u .f32 0xFF800000#32) h hu (ix3 a b r) = peak fun m : Fin N => (x (ix4 a b r m) : EReal) := by
  refine (congrFun (hostReduce_maximumf_eq_multiReduction x 0xFF800000#32 h hu h' (.inl rfl) rfl) (ix3 a b r)).trans ?_
  refine (Ideal.multiReduction_maximumf_single x _ h' (.inl rfl) rfl _).trans ?_
  show Finset.univ.fold max (Ideal.ofBits .f32 0xFF800000#32) _ = _
  rw [ofBits_ninf']
  exact congrArg (Finset.univ.fold max ⊥) (funext fun m => congrArg x (funext fun a => by fin_cases a <;> rfl))

/-- The sum along the last of four axes. -/
theorem last4_sum {A B M N : ℕ} (x : FVec Ideal ⟨4, ![A, B, M, N]⟩ .f32) {u : Shape} (h : (⟨4, ![A, B, M, N]⟩ : Shape).ReducesTo [3] ⟨3, ![A, B, M]⟩)
    (h' : (⟨4, ![A, B, M, N]⟩ : Shape).Reduces [3] ⟨3, ![A, B, M]⟩) (hu : 0 < u.numel) (a : Fin A) (b : Fin B) (r : Fin M) :
    Host.reduceAdd x (constant u .f32 0x00000000#32) h hu (ix3 a b r) = ∑ m : Fin N, (x (ix4 a b r m) : EReal) := by
  rw [hostReduceAdd_apply]
  refine (Ideal.hostReduceAdd_single _ h' x _ _).trans ?_
  show Ideal.ofBits .f32 0x00000000#32 + _ = _
  rw [Ideal.ofBits_zero_f32, zero_add]
  exact Finset.sum_congr rfl fun m _ => congrArg x (funext fun a => by fin_cases a <;> rfl)

theorem rPeak_at (s : FVec Ideal S1x12x2048x2048 .f32) (h : Fin 12) (t : Fin 2048) : rPeak s (ix3 0 h t) = peak fun m : Fin 2048 => (s (ix4 0 h t m) : EReal) :=
  last4_max s _ redS _ 0 h t

theorem hexp_sub_at {s : Shape} (a b : FVec Ideal s .f32) (k : s.Idx) : Host.exp (subf a b) k = Ideal.exp ((a k : EReal) - b k) := rfl
theorem max_at {s : Shape} (a b : FVec Ideal s .f32) (k : s.Idx) : maximumf a b k = max (a k : EReal) (b k) := rfl

/-- A maximum with minus infinity changes nothing. -/
theorem max_ninf_at (v : FVec Ideal S1x12x2048 .f32) (k : S1x12x2048.Idx) :
    maximumf (broadcastInDim S1x12x2048 ![] bcast_S_S1x12x2048 (constant S_ .f32 0xFF800000#32)) v k = v k := by
  rw [max_at, broadcastInDim_scalar_apply bcast_S_S1x12x2048]
  have hb : ((constant S_ .f32 0xFF800000#32 : FVec Ideal S_ .f32) ix0 : EReal) = ⊥ := ofBits_ninf'
  rw [hb]
  exact max_eq_right bot_le

theorem wt_intro {n : ℕ} (s : Fin n → EReal) (m : Fin n) (y : EReal) (h : y = peak s) : Ideal.exp (s m - y) = wt s m := by rw [h]; rfl

theorem rWt_at (s : FVec Ideal S1x12x2048x2048 .f32) (h : Fin 12) (t m : Fin 2048) : rWt s (ix4 0 h t m) = wt (fun m : Fin 2048 => (s (ix4 0 h t m) : EReal)) m := by
  unfold rWt
  rw [hexp_sub_at, rAlong_at, max_ninf_at]
  exact wt_intro (fun m : Fin 2048 => (s (ix4 0 h t m) : EReal)) m _ (rPeak_at s h t)

theorem rTot_at (p : FVec Ideal S1x12x2048x2048 .f32) (h : Fin 12) (t : Fin 2048) : rTot p (ix3 0 h t) = ∑ m : Fin 2048, (p (ix4 0 h t m) : EReal) :=
  last4_sum p _ redS _ 0 h t

theorem rMix_at (s : FVec Ideal S1x12x2048x2048 .f32) (v : FVec Ideal S1x12x2048x64 .f32) (h : Fin 12) (t : Fin 2048) (k : Fin 64) :
    rMix (rWt s) v (ix4 0 h t k) = headR (fun m : Fin 2048 => (s (ix4 0 h t m) : EReal)) (fun m => v (ix4 0 h m k)) := by
  refine (Ideal.dotGeneral_apply dotA none _ _ v _).trans ?_
  rw [← Equiv.sum_comp (contrEquiv1 dotA 2048 rfl rfl).symm]
  refine Finset.sum_congr rfl fun d _ => ?_
  have hk := contrEquiv1_symm_val dotA 2048 rfl rfl d
  have hl : dotA.lhsIdx (ix4 0 h t k) ((contrEquiv1 dotA 2048 rfl rfl).symm d) = ix4 0 h t d := by
    funext a; apply Fin.ext
    match a with
    | ⟨0, _⟩ => rfl
    | ⟨1, _⟩ => rfl
    | ⟨2, _⟩ => rfl
    | ⟨3, _⟩ => exact hk
  have hr : dotA.rhsIdx (ix4 0 h t k) ((contrEquiv1 dotA 2048 rfl rfl).symm d) = ix4 0 h d k := by
    funext a; apply Fin.ext
    match a with
    | ⟨0, _⟩ => rfl
    | ⟨1, _⟩ => rfl
    | ⟨2, _⟩ => exact hk
    | ⟨3, _⟩ => rfl
  rw [hl, hr]
  refine congrArg (fun a : EReal => a * (v (ix4 0 h d k) : EReal)) (congrArg₂ Ideal.div (rWt_at s h t d) ?_)
  exact (rAlong_at _ h t d).trans ((rTot_at _ h t).trans (Finset.sum_congr rfl fun m _ => rWt_at s h t m))

theorem dotO_at (a : FVec Ideal S1x12x2048x64 .f32) (w : FVec Ideal S12x64x768 .f32) (t : Fin 2048) (d : Fin 768) :
    Host.dotGeneral dotO none a w (ix3 0 t d) = ∑ h : Fin 12, ∑ k : Fin 64, (a (ix4 0 h t k) : EReal) * w (ix3 h k d) := by
  refine (Ideal.dotGeneral_apply dotO none _ a w _).trans ?_
  rw [sum_contr2 dotO 12 64 rfl rfl rfl]
  refine Finset.sum_congr rfl fun h _ => Finset.sum_congr rfl fun k _ => ?_
  have h0 := contrEquiv2_symm_val0 dotO 12 64 rfl rfl rfl (h, k)
  have h1 := contrEquiv2_symm_val1 dotO 12 64 rfl rfl rfl (h, k)
  refine congrArg₂ (fun a b : EReal => a * b) (congrArg a ?_) (congrArg w ?_)
  · funext a; apply Fin.ext
    match a with
    | ⟨0, _⟩ => rfl
    | ⟨1, _⟩ => exact h0
    | ⟨2, _⟩ => rfl
    | ⟨3, _⟩ => exact h1
  · funext a; apply Fin.ext
    match a with
    | ⟨0, _⟩ => exact h0
    | ⟨1, _⟩ => exact h1
    | ⟨2, _⟩ => rfl

section
variable (V0 : Valuation τ sig (Elt Ideal))

/-- The arguments of the attention. -/
abbrev a0 : FVec Ideal S1x2048x768 .f32 := V0 (Proc.devRef .tc main_arg0)
abbrev a1 : FVec Ideal S12x768x64 .f32 := V0 (Proc.devRef .tc main_arg1)
abbrev a2 : FVec Ideal S12x768x64 .f32 := V0 (Proc.devRef .tc main_arg2)
abbrev a3 : FVec Ideal S12x768x64 .f32 := V0 (Proc.devRef .tc main_arg3)
abbrev a4 : FVec Ideal S12x64x768 .f32 := V0 (Proc.devRef .tc main_arg4)

theorem v8_eq : res_main_v8 V0 = rScore (rProj (a1 V0) (a0 V0)) (rProj (a2 V0) (a0 V0)) := rfl
theorem v15_eq : res_main_v15 V0 = rWt (res_main_v8 V0) := rfl
theorem v23_eq : res_main_v23 V0 = shapeCast S2048x768 (addf (a0 V0)
    (Host.dotGeneral dotO none (rMix (res_main_v15 V0) (rProj (a3 V0) (a0 V0))) (a4 V0))) shapeCasts_S1x2048x768_S2048x768 := rfl

/-- The score of two tokens under a head, and one component of a projected token. -/
def rComp (x : FVec Ideal S1x2048x768 .f32) (w : FVec Ideal S12x768x64 .f32) (h : Fin 12) (t : Fin 2048) (k : Fin 64) : EReal :=
  ∑ d : Fin 768, (x (ix3 0 t d) : EReal) * w (ix3 h d k)
def rDot (x : FVec Ideal S1x2048x768 .f32) (wq wk : FVec Ideal S12x768x64 .f32) (h : Fin 12) (t m : Fin 2048) : EReal :=
  ∑ c : Fin 64, rComp x wq h t c * rComp x wk h m c

theorem v23_at (t : Fin 2048) (d : Fin 768) : res_main_v23 V0 (ix2 t d)
    = (a0 V0 (ix3 0 t d) : EReal) + ∑ h : Fin 12, ∑ k : Fin 64,
      headR (fun m => Ideal.div (rDot (a0 V0) (a1 V0) (a2 V0) h t m) (Ideal.ofBits .f32 0x41000000#32))
        (fun m => rComp (a0 V0) (a3 V0) h m k) * a4 V0 (ix3 h k d) := by
  rw [v23_eq]
  refine (unlead_at _ t d).trans ?_
  refine congrArg (fun y : EReal => (a0 V0 (ix3 0 t d) : EReal) + y) ?_
  refine (dotO_at _ _ t d).trans ?_
  refine Finset.sum_congr rfl fun h _ => Finset.sum_congr rfl fun k _ => ?_
  refine congrArg (fun y : EReal => y * a4 V0 (ix3 h k d)) ?_
  rw [v15_eq]
  refine (rMix_at _ _ h t k).trans (congrArg₂ headR (funext fun m => ?_) (funext fun m => rProj_at _ _ h m k))
  rw [v8_eq]
  refine (rScore_at _ _ h t m).trans (congrArg (fun y => Ideal.div y _) ?_)
  exact Finset.sum_congr rfl fun c _ => congrArg₂ (fun a b : EReal => a * b) (rProj_at _ _ h t c) (rProj_at _ _ h m c)

end

end Cert.Proof.Val
-- ==== Proof.RGate.lean ====
/- The reference's gate read at a position. -/
module

public import proofs.«01_k».proof.Proof.RAttn
public import Idealize.ShloMosaic.Lib.Routing.OpsPair
public import Idealize.ShloMosaic.Lib.Routing.OpsSet

@[expose] public section

noncomputable section

namespace Cert.Proof.Val

open Cert.ReferenceIdeal Cert.ReferenceIdeal.Gen Cert.ReferenceIdeal.Value
open Idealize.ShloMosaic Idealize.ShloMosaic.ValueIdx Idealize.ShloMosaic.TcCoe Idealize.ShloMosaic.Routing

/-! ## The two largest logits -/

theorem sort2_fst {s : Shape} {α β : Type} (d : ℕ) (cmp : α × β → α × β → BitVec 1) (x : s.Idx → α) (y : s.Idx → β) (hd : d < s.rank) (j : s.Idx) :
    (Host.sort2 s d cmp x y).1 j = x (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]
theorem sort2_snd {s : Shape} {α β : Type} (d : ℕ) (cmp : α × β → α × β → BitVec 1) (x : s.Idx → α) (y : s.Idx → β) (hd : d < s.rank) (j : s.Idx) :
    (Host.sort2 s d cmp x y).2 j = y (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- The logits of a token, and the experts in the order of their logits. -/
def rowOf (L : FVec Ideal S2048x8 .f32) (t : Fin 2048) (e : Fin 8) : EReal := L (ix2 t e)
def rnk (L : FVec Ideal S2048x8 .f32) (t : Fin 2048) (r : Fin 2) : Fin 8 := sortedFrom (before (rowOf L t)) (r.castLE (by decide))

theorem one_lt : 1 < S2048x8.rank := by decide
theorem along_at (t : Fin 2048) (e k : Fin 8) : (ix2 t e : S2048x8.Idx).along ⟨1, one_lt⟩ k = ix2 t k := by
  funext a
  match a with
  | ⟨0, _⟩ => rfl
  | ⟨1, _⟩ => rfl

theorem gt_before (x y : EReal) : (FloatOps.cmpfTotal (F := Ideal) (φ := .f32) .gt x y == 1#1) = decide (y < x) := by
  show (BitVec.ofBool (decide (y < x)) == 1#1) = _
  cases decide (y < x) <;> rfl

def rTop (L : FVec Ideal S2048x8 .f32) : FVec Ideal S2048x2 .f32 × IVec S2048x2 32 := Host.topK S2048x2 1 (FloatOps.cmpfTotal .gt) L sliceFits_S2048x8_S2048x2

theorem order_at {β : Type} (L : FVec Ideal S2048x8 .f32) (y : S2048x8.Idx → β) (t : Fin 2048) (q : Fin 8) :
    sortedFrom (fun k k' => (fun l r : EReal × β => FloatOps.cmpfTotal (F := Ideal) (φ := .f32) .gt l.1 r.1)
      (L ((ix2 t q : S2048x8.Idx).along ⟨1, one_lt⟩ k), y ((ix2 t q : S2048x8.Idx).along ⟨1, one_lt⟩ k))
      (L ((ix2 t q : S2048x8.Idx).along ⟨1, one_lt⟩ k'), y ((ix2 t q : S2048x8.Idx).along ⟨1, one_lt⟩ k')) == 1#1) q
      = sortedFrom (before (rowOf L t)) q := by
  refine congrArg (fun f => sortedFrom f q) (funext fun k => funext fun k' => ?_)
  refine (gt_before _ _).trans ?_
  exact congrArg₂ (fun a b : EReal => decide (a < b)) (congrArg L (along_at t q k')) (congrArg L (along_at t q k))

/-- The experts' numbers along each row, and the sorted rows. -/
def rNum : IVec S2048x8 32 := fun i => if hd : 1 < S2048x8.rank then iotaInDim S2048x8 32 ⟨1, hd⟩ i else 0#32
def rSorted (L : FVec Ideal S2048x8 .f32) : (S2048x8.Idx → Ideal .f32) × (S2048x8.Idx → BitVec 32) :=
  Host.sort2 S2048x8 1 (fun l r => FloatOps.cmpfTotal (F := Ideal) (φ := .f32) .gt l.1 r.1) L rNum

theorem rTop1_eq (L : FVec Ideal S2048x8 .f32) : (rTop L).1 = extractStridedSlice S2048x2 (fun _ => 0) (rSorted L).1 sliceFits_S2048x8_S2048x2 := rfl
theorem rTop2_eq (L : FVec Ideal S2048x8 .f32) : (rTop L).2 = extractStridedSlice S2048x2 (fun _ => 0) (rSorted L).2 sliceFits_S2048x8_S2048x2 := rfl

/-- The first two columns of a table of eight. -/
theorem cut_at {α : Type} (x : S2048x8.Idx → α) (t : Fin 2048) (r : Fin 2) :
    extractStridedSlice S2048x2 (fun _ => 0) x sliceFits_S2048x8_S2048x2 (ix2 t r) = x (ix2 t (r.castLE (by decide : 2 ≤ 8))) :=
  extractStridedSlice_apply _ _ _ _ _ (fun a => by
    match a with
    | ⟨0, _⟩ => exact (Nat.zero_add _).symm
    | ⟨1, _⟩ => exact (Nat.zero_add _).symm)

theorem rTop1_at (L : FVec Ideal S2048x8 .f32) (t : Fin 2048) (r : Fin 2) : (rTop L).1 (ix2 t r) = rowOf L t (rnk L t r) := by
  rw [rTop1_eq, cut_at]
  refine (sort2_fst 1 _ L rNum one_lt _).trans ?_
  refine (congrArg (fun q : Fin 8 => L ((ix2 t (r.castLE (by decide : 2 ≤ 8)) : S2048x8.Idx).along ⟨1, one_lt⟩ q)) (order_at L rNum t _)).trans ?_
  exact congrArg L (along_at t _ _)

theorem rTop2_at (L : FVec Ideal S2048x8 .f32) (t : Fin 2048) (r : Fin 2) : (rTop L).2 (ix2 t r) = BitVec.ofNat 32 (rnk L t r).val := by
  rw [rTop2_eq, cut_at]
  refine (sort2_snd 1 _ L rNum one_lt _).trans ?_
  refine (congrArg (fun q : Fin 8 => rNum ((ix2 t (r.castLE (by decide : 2 ≤ 8)) : S2048x8.Idx).along ⟨1, one_lt⟩ q)) (order_at L rNum t _)).trans ?_
  exact congrArg rNum (along_at t _ _)

/-! ## Their weights -/

/-- One number per token, repeated along a pair. -/
def rPair (v : FVec Ideal S2048 .f32) : FVec Ideal S2048x2 .f32 :=
  broadcastInDim S2048x2 ![0, 1] bcast_S2048x1_S2048x2_0_1 (broadcastInDim S2048x1 ![0] bcast_S2048_S2048x1_0 v)
def rPeak2 (v : FVec Ideal S2048x2 .f32) : FVec Ideal S2048 .f32 := Host.reduce FloatOps.maximumf v (constant S_ .f32 0xFF800000#32) reducesTo_S2048x2_S2048_d1 h_S_
def rExp2 (v : FVec Ideal S2048x2 .f32) : FVec Ideal S2048x2 .f32 :=
  Host.exp (subf v (rPair (maximumf (broadcastInDim S2048 ![] bcast_S_S2048 (constant S_ .f32 0xFF800000#32)) (rPeak2 v))))
def rTot2 (v : FVec Ideal S2048x2 .f32) : FVec Ideal S2048 .f32 := Host.reduceAdd v (constant S_ .f32 0x00000000#32) reducesTo_S2048x2_S2048_d1 h_S_
def rShare (v : FVec Ideal S2048x2 .f32) : FVec Ideal S2048x2 .f32 := Host.divf v (rPair (rTot2 v))

theorem redP : S2048x2.Reduces [1] S2048 := by decide

theorem rPair_at (v : FVec Ideal S2048 .f32) (t : Fin 2048) (r : Fin 2) : rPair v (ix2 t r) = v (ix1 t) :=
  (broadcastInDim_apply _ _ _ _ (ix2 t 0) (fun a => by fin_cases a <;> rfl)).trans (broadcastInDim_apply _ _ _ _ (ix1 t) (fun a => by fin_cases a; rfl))

theorem last2_max {M N : ℕ} (x : FVec Ideal ⟨2, ![M, N]⟩ .f32) {u : Shape} (h : (⟨2, ![M, N]⟩ : Shape).ReducesTo [1] ⟨1, ![M]⟩)
    (h' : (⟨2, ![M, N]⟩ : Shape).Reduces [1] ⟨1, ![M]⟩) (hu : 0 < u.numel) (r : Fin M) :
    Host.reduce FloatOps.maximumf x (constant u .f32 0xFF800000#32) h hu (ix1 r) = peak fun m : Fin N => (x (ix2 r m) : EReal) := by
  refine (congrFun (hostReduce_maximumf_eq_multiReduction x 0xFF800000#32 h hu h' (.inl rfl) rfl) (ix1 r)).trans ?_
  refine (Ideal.multiReduction_maximumf_single x _ h' (.inl rfl) rfl _).trans ?_
  show Finset.univ.fold max (Ideal.ofBits .f32 0xFF800000#32) _ = _
  rw [ofBits_ninf']
  exact congrArg (Finset.univ.fold max ⊥) (funext fun m => congrArg x (funext fun a => by fin_cases a <;> rfl))

theorem last2_sum {M N : ℕ} (x : FVec Ideal ⟨2, ![M, N]⟩ .f32) {u : Shape} (h : (⟨2, ![M, N]⟩ : Shape).ReducesTo [1] ⟨1, ![M]⟩)
    (h' : (⟨2, ![M, N]⟩ : Shape).Reduces [1] ⟨1, ![M]⟩) (hu : 0 < u.numel) (r : Fin M) :
    Host.reduceAdd x (constant u .f32 0x00000000#32) h hu (ix1 r) = ∑ m : Fin N, (x (ix2 r m) : EReal) := by
  rw [hostReduceAdd_apply]
  refine (Ideal.hostReduceAdd_single _ h' x _ _).trans ?_
  show Ideal.ofBits .f32 0x00000000#32 + _ = _
  rw [Ideal.ofBits_zero_f32, zero_add]
  exact Finset.sum_congr rfl fun m _ => congrArg x (funext fun a => by fin_cases a <;> rfl)

theorem max_ninf2_at (v : FVec Ideal S2048 .f32) (k : S2048.Idx) :
    maximumf (broadcastInDim S2048 ![] bcast_S_S2048 (constant S_ .f32 0xFF800000#32)) v k = v k := by
  rw [max_at, broadcastInDim_scalar_apply bcast_S_S2048]
  have hb : ((constant S_ .f32 0xFF800000#32 : FVec Ideal S_ .f32) ix0 : EReal) = ⊥ := ofBits_ninf'
  rw [hb]
  exact max_eq_right bot_le

theorem rExp2_at (v : FVec Ideal S2048x2 .f32) (t : Fin 2048) (r : Fin 2) : rExp2 v (ix2 t r) = wt (fun r : Fin 2 => (v (ix2 t r) : EReal)) r := by
  unfold rExp2
  rw [hexp_sub_at, rPair_at, max_ninf2_at]
  exact wt_intro (fun r : Fin 2 => (v (ix2 t r) : EReal)) r _ (last2_max v _ redP _ t)

theorem rShare_at (v : FVec Ideal S2048x2 .f32) (t : Fin 2048) (r : Fin 2) : rShare v (ix2 t r) = Ideal.div (v (ix2 t r)) (∑ r : Fin 2, (v (ix2 t r) : EReal)) :=
  congrArg (Ideal.div (v (ix2 t r))) ((rPair_at _ t r).trans (last2_sum v _ redP _ t))

/-- Two weights by exponentials, the first exponent the larger. -/
theorem wt_two (s : Fin 2 → EReal) (h : s 1 ≤ s 0) (hf : Fin' (s 0)) : wt s 0 = 1 ∧ wt s 1 = Ideal.exp (s 1 - s 0) := by
  have hp : peak s = s 0 := by
    refine le_antisymm ?_ (le_peak s 0)
    obtain ⟨i, hi⟩ := peak_mem s
    rw [hi]
    fin_cases i
    · exact le_rfl
    · exact h
  unfold wt
  rw [hp]
  refine ⟨?_, rfl⟩
  obtain ⟨r, hr⟩ := hf
  rw [hr, ← EReal.coe_sub, sub_self]
  exact (congrArg (fun x : ℝ => (x : EReal)) Real.exp_zero)

/-! ## The gate -/

/-- A word that reads back as its number. -/
theorem toInt_small (n : ℕ) (h : n < 2 ^ 31) : (BitVec.ofNat 32 n).toInt = (n : ℤ) := by
  have h1 : (BitVec.ofNat 32 n).toNat = n := by rw [BitVec.toNat_ofNat]; exact Nat.mod_eq_of_lt (by omega)
  rw [BitVec.toInt_eq_toNat_of_lt (by rw [h1]; omega), h1]
theorem toNat_small (n : ℕ) (h : n < 2 ^ 31) : (BitVec.ofNat 32 n).toNat < 2 ^ (32 - 1) := by
  rw [BitVec.toNat_ofNat, Nat.mod_eq_of_lt (by omega)]; exact h

/-- The token numbers as a column, and the two columns of positions written. -/
def rTok : IVec S2048x1 32 := broadcastInDim S2048x1 ![0] bcast_S2048_S2048x1_0 (iotaInDim S2048 32 0)
def rColT : IVec S2048x2x1 32 :=
  broadcastInDim S2048x2x1 ![0, 1] bcast_S2048x2_S2048x2x1_0_1 (broadcastInDim S2048x2 ![0, 1] bcast_S2048x1_S2048x2_0_1
    (select (cmpi .slt rTok (broadcastInDim S2048x1 ![] bcast_S_S2048x1 (constantI S_ 32 0#32))) (addi rTok (broadcastInDim S2048x1 ![] bcast_S_S2048x1 (constantI S_ 32 2048#32))) rTok))
def rColE (I : IVec S2048x2 32) : IVec S2048x2x1 32 :=
  broadcastInDim S2048x2x1 ![0, 1] bcast_S2048x2_S2048x2x1_0_1
    (select (cmpi .slt I (broadcastInDim S2048x2 ![] bcast_S_S2048x2 (constantI S_ 32 0#32))) (addi I (broadcastInDim S2048x2 ![] bcast_S_S2048x2 (constantI S_ 32 8#32))) I)
def rPos (I : IVec S2048x2 32) : IVec S2048x2x2 32 :=
  concatenate S2048x2x2 2 [⟨S2048x2x1, rColT⟩, ⟨S2048x2x1, rColE I⟩] concatenates_S2048x2x1_S2048x2x1_S2048x2x2_d2
def rScat (I : IVec S2048x2 32) (w : FVec Ideal S2048x2 .f32) : FVec Ideal S2048x8 .f32 :=
  Host.scatter scatter_S2048x8_S2048x2x2_S2048x2_n_01_01_2 (fun _ b => b) (broadcastInDim S2048x8 ![] bcast_S_S2048x8 (constant S_ .f32 0x00000000#32)) (rPos I) w

theorem rTok_at (t : Fin 2048) : rTok (ix2 t 0) = BitVec.ofNat 32 t.val :=
  (broadcastInDim_apply _ _ _ _ (ix1 t) (fun a => by fin_cases a; rfl)).trans rfl
theorem rColT_at (t : Fin 2048) (r : Fin 2) : rColT (ix3 t r 0) = BitVec.ofNat 32 t.val := by
  refine (broadcastInDim_apply _ _ _ _ (ix2 t r) (fun a => by fin_cases a <;> rfl)).trans ?_
  refine (broadcastInDim_apply _ _ _ _ (ix2 t 0) (fun a => by fin_cases a <;> rfl)).trans ?_
  show Scalar.select (IntOp.cmpi .slt (rTok (ix2 t 0)) (broadcastInDim S2048x1 ![] bcast_S_S2048x1 (constantI S_ 32 0#32) (ix2 t 0))) _ (rTok (ix2 t 0)) = _
  rw [rTok_at, broadcastInDim_scalar_apply bcast_S_S2048x1]
  exact wrap_of_lt _ _ (toNat_small _ (by have := t.isLt; omega))
theorem rColE_at (I : IVec S2048x2 32) (t : Fin 2048) (r : Fin 2) (n : ℕ) (hn : n < 2 ^ 31) (h : I (ix2 t r) = BitVec.ofNat 32 n) : rColE I (ix3 t r 0) = BitVec.ofNat 32 n := by
  refine (broadcastInDim_apply _ _ _ _ (ix2 t r) (fun a => by fin_cases a <;> rfl)).trans ?_
  show Scalar.select (IntOp.cmpi .slt (I (ix2 t r)) (broadcastInDim S2048x2 ![] bcast_S_S2048x2 (constantI S_ 32 0#32) (ix2 t r))) _ (I (ix2 t r)) = _
  rw [h, broadcastInDim_scalar_apply bcast_S_S2048x2]
  exact wrap_of_lt _ _ (toNat_small _ hn)
/-- Two columns side by side. -/
theorem cat0_at {α : Type} {A B : ℕ} (x y : (⟨3, ![A, B, 1]⟩ : Shape).Idx → α) (h : Shape.Concatenates [⟨3, ![A, B, 1]⟩, ⟨3, ![A, B, 1]⟩] ⟨3, ![A, B, 2]⟩ 2) (a : Fin A) (b : Fin B) :
    concatenate ⟨3, ![A, B, 2]⟩ 2 [⟨⟨3, ![A, B, 1]⟩, x⟩, ⟨⟨3, ![A, B, 1]⟩, y⟩] h (ix3 a b 0) = x (ix3 a b 0) :=
  concatenate_pair_apply_left 2 x y h (ix3 a b 0) rfl (ix3 a b 0) (fun b => by fin_cases b <;> rfl)
theorem cat1_at {α : Type} {A B : ℕ} (x y : (⟨3, ![A, B, 1]⟩ : Shape).Idx → α) (h : Shape.Concatenates [⟨3, ![A, B, 1]⟩, ⟨3, ![A, B, 1]⟩] ⟨3, ![A, B, 2]⟩ 2) (a : Fin A) (b : Fin B) :
    concatenate ⟨3, ![A, B, 2]⟩ 2 [⟨⟨3, ![A, B, 1]⟩, x⟩, ⟨⟨3, ![A, B, 1]⟩, y⟩] h (ix3 a b 1) = y (ix3 a b 0) :=
  concatenate_pair_apply_right 2 x y h (ix3 a b 1) rfl rfl (ix3 a b 0) (fun b hb => by fin_cases b <;> first | rfl | exact absurd rfl hb) rfl

theorem rPos0_at (I : IVec S2048x2 32) (t : Fin 2048) (r : Fin 2) : rPos I (ix3 t r 0) = BitVec.ofNat 32 t.val := by
  unfold rPos
  exact (cat0_at rColT (rColE I) _ t r).trans (rColT_at t r)
theorem rPos1_at (I : IVec S2048x2 32) (t : Fin 2048) (r : Fin 2) : rPos I (ix3 t r 1) = rColE I (ix3 t r 0) := by
  unfold rPos
  exact cat1_at rColT (rColE I) _ t r

/-- An entry of the gate table is written by the token's own pair alone. -/
theorem lands_at (I : IVec S2048x2 32) (n : Fin 2048 → Fin 2 → Fin 8) (hI : ∀ t r, I (ix2 t r) = BitVec.ofNat 32 (n t r).val) (a t : Fin 2048) (r : Fin 2) (e : Fin 8) :
    scatter_S2048x8_S2048x2x2_S2048x2_n_01_01_2.resultIdx? (ix2 a r) (rPos I) = some (ix2 t e) ↔ a = t ∧ n a r = e := by
  refine (scatter_lands2 scatter_S2048x8_S2048x2x2_S2048x2_n_01_01_2 rfl rfl rfl (rPos I) a r t e).trans ?_
  rw [rPos0_at, rPos1_at, rColE_at I a r (n a r).val (by have := (n a r).isLt; omega) (hI a r), toInt_small _ (by have := a.isLt; omega),
    toInt_small _ (by have := (n a r).isLt; omega)]
  constructor
  · rintro ⟨h1, h2⟩
    exact ⟨Fin.ext (by exact_mod_cast h1), Fin.ext (by exact_mod_cast h2)⟩
  · rintro ⟨rfl, rfl⟩
    exact ⟨rfl, rfl⟩

theorem rScat_at (I : IVec S2048x2 32) (n : Fin 2048 → Fin 2 → Fin 8) (hI : ∀ t r, I (ix2 t r) = BitVec.ofNat 32 (n t r).val) (w : FVec Ideal S2048x2 .f32)
    (t : Fin 2048) (hne : n t 0 ≠ n t 1) (e : Fin 8) :
    rScat I w (ix2 t e) = if e = n t 0 then (w (ix2 t 0) : EReal) else if e = n t 1 then w (ix2 t 1) else 0 := by
  have hit : ∀ r : Fin 2, e = n t r → (∀ r', n t r' = n t r → r' = r) → rScat I w (ix2 t e) = w (ix2 t r) := fun r hr hu => by
    refine scatter_set_hit _ _ _ _ _ _ (fun k hk => ?_) (ix2 t r) ((lands_at I n hI t t r e).mpr ⟨rfl, hr.symm⟩)
    rw [eq_ix2 k] at hk ⊢
    obtain ⟨h1, h2⟩ := (lands_at I n hI _ t _ e).mp hk
    rw [h1] at h2 ⊢
    rw [hu _ (h2.trans hr)]
    rfl
  have two : ∀ r : Fin 2, r = 0 ∨ r = 1 := by decide
  by_cases h0 : e = n t 0
  · rw [if_pos h0]
    refine hit 0 h0 fun r' h' => ?_
    rcases two r' with rfl | rfl
    · rfl
    · exact absurd h'.symm hne
  · rw [if_neg h0]
    by_cases h1 : e = n t 1
    · rw [if_pos h1]
      refine hit 1 h1 fun r' h' => ?_
      rcases two r' with rfl | rfl
      · exact absurd h' hne
      · rfl
    · rw [if_neg h1]
      refine (scatter_set_miss _ _ _ _ _ fun k hk => ?_).trans ((broadcastInDim_scalar_apply bcast_S_S2048x8 _ (ix2 t e)).trans Ideal.ofBits_zero_f32)
      rw [eq_ix2 k] at hk
      obtain ⟨h2, h3⟩ := (lands_at I n hI _ t _ e).mp hk
      rw [h2] at h3
      rcases two (k 1) with h4 | h4 <;> rw [h4] at h3
      · exact h0 h3.symm
      · exact h1 h3.symm

/-- The gate table of the reference. -/
def rGate (L : FVec Ideal S2048x8 .f32) : FVec Ideal S2048x8 .f32 := rScat (rTop L).2 (rShare (rExp2 (rTop L).1))

theorem rGate_at (L : FVec Ideal S2048x8 .f32) (t : Fin 2048) (hf : ∀ e, Fin' (rowOf L t e)) (e : Fin 8) :
    rGate L (ix2 t e) = gate (rowOf L t) (rnk L t 0) (rnk L t 1) e := by
  have ht : Top2 (rowOf L t) (rnk L t 0) (rnk L t 1) := top2_sorted _
  have hv : (fun r : Fin 2 => ((rTop L).1 (ix2 t r) : EReal)) = fun r => rowOf L t (rnk L t r) := funext fun r => rTop1_at L t r
  obtain ⟨w0, w1⟩ := wt_two (fun r => rowOf L t (rnk L t r)) (ht.le _) (hf _)
  have x0 : (rExp2 (rTop L).1 (ix2 t 0) : EReal) = 1 := by rw [rExp2_at, hv, w0]
  have x1 : (rExp2 (rTop L).1 (ix2 t 1) : EReal) = e2 (rowOf L t) (rnk L t 0) (rnk L t 1) := by rw [rExp2_at, hv, w1]; rfl
  unfold rGate
  rw [rScat_at _ (rnk L) (rTop2_at L) _ t ht.ne, rShare_at, rShare_at, Fin.sum_univ_two, x0, x1]
  rfl

end Cert.Proof.Val
-- ==== Proof.RMoe.lean ====
/- The reference's experts read at a position. -/
module

public import proofs.«01_k».proof.Proof.RGate

@[expose] public section

noncomputable section

namespace Cert.Proof.Val

open Cert.ReferenceIdeal Cert.ReferenceIdeal.Gen Cert.ReferenceIdeal.Value
open Idealize.ShloMosaic Idealize.ShloMosaic.ValueIdx Idealize.ShloMosaic.TcCoe

abbrev dotL := dot_S2048x768_S768x8_S2048x8_1_0_0_1_n_n
abbrev dotH := dot_S8x768x512_S2048x768_S8x512x2048_1_1_02_0_n_n
abbrev dotY := dot_S8x2048x512_S8x512x768_S8x2048x768_2_1_1_2_0_0
abbrev dotG := dot_S2048x8_S8x2048x768_S2048x768_1_0_n_2_0_1

def rHid (w : FVec Ideal S8x768x512 .f32) (h : FVec Ideal S2048x768 .f32) (b : FVec Ideal S8x512 .f32) : FVec Ideal S8x2048x512 .f32 :=
  addf (transpose S8x2048x512 [0, 2, 1] (Host.dotGeneral dotH none w h) transposes_S8x512x2048_S8x2048x512_0_2_1)
    (broadcastInDim S8x2048x512 ![0, 1, 2] bcast_S8x1x512_S8x2048x512_0_1_2 (broadcastInDim S8x1x512 ![0, 2] bcast_S8x512_S8x1x512_0_2 b))
def rAct (a : FVec Ideal S8x2048x512 .f32) : FVec Ideal S8x2048x512 .f32 :=
  mulf (mulf (broadcastInDim S8x2048x512 ![] bcast_S_S8x2048x512 (constant S_ .f32 0x3F000000#32)) a)
    (Host.erfc (mulf (Host.negf a) (broadcastInDim S8x2048x512 ![] bcast_S_S8x2048x512 (constant S_ .f32 0x3F3504F3#32))))
def rOut (a : FVec Ideal S8x2048x512 .f32) (w : FVec Ideal S8x512x768 .f32) (b : FVec Ideal S8x768 .f32) : FVec Ideal S8x2048x768 .f32 :=
  addf (Host.dotGeneral dotY none a w)
    (broadcastInDim S8x2048x768 ![0, 1, 2] bcast_S8x1x768_S8x2048x768_0_1_2 (broadcastInDim S8x1x768 ![0, 2] bcast_S8x768_S8x1x768_0_2 b))

theorem dotL_at (h : FVec Ideal S2048x768 .f32) (w : FVec Ideal S768x8 .f32) (t : Fin 2048) (e : Fin 8) :
    Host.dotGeneral dotL none h w (ix2 t e) = ∑ d : Fin 768, (h (ix2 t d) : EReal) * w (ix2 d e) := by
  refine (Ideal.dotGeneral_apply dotL none _ h w _).trans ?_
  rw [← Equiv.sum_comp (contrEquiv1 dotL 768 rfl rfl).symm]
  refine Finset.sum_congr rfl fun d _ => ?_
  have hk := contrEquiv1_symm_val dotL 768 rfl rfl d
  refine congrArg₂ (fun a b : EReal => a * b) (congrArg h ?_) (congrArg w ?_)
  · funext a; apply Fin.ext
    match a with
    | ⟨0, _⟩ => rfl
    | ⟨1, _⟩ => exact hk
  · funext a; apply Fin.ext
    match a with
    | ⟨0, _⟩ => exact hk
    | ⟨1, _⟩ => rfl

theorem dotH_at (w : FVec Ideal S8x768x512 .f32) (h : FVec Ideal S2048x768 .f32) (e : Fin 8) (f : Fin 512) (t : Fin 2048) :
    Host.dotGeneral dotH none w h (ix3 e f t) = ∑ d : Fin 768, (h (ix2 t d) : EReal) * w (ix3 e d f) := by
  refine (Ideal.dotGeneral_apply dotH none _ w h _).trans ?_
  rw [← Equiv.sum_comp (contrEquiv1 dotH 768 rfl rfl).symm]
  refine Finset.sum_congr rfl fun d _ => ?_
  have hk := contrEquiv1_symm_val dotH 768 rfl rfl d
  rw [mul_comm]
  refine congrArg₂ (fun a b : EReal => a * b) (congrArg h ?_) (congrArg w ?_)
  · funext a; apply Fin.ext
    match a with
    | ⟨0, _⟩ => rfl
    | ⟨1, _⟩ => exact hk
  · funext a; apply Fin.ext
    match a with
    | ⟨0, _⟩ => rfl
    | ⟨1, _⟩ => exact hk
    | ⟨2, _⟩ => rfl

theorem dotY_at (a : FVec Ideal S8x2048x512 .f32) (w : FVec Ideal S8x512x768 .f32) (e : Fin 8) (t : Fin 2048) (d : Fin 768) :
    Host.dotGeneral dotY none a w (ix3 e t d) = ∑ f : Fin 512, (a (ix3 e t f) : EReal) * w (ix3 e f d) := by
  refine (Ideal.dotGeneral_apply dotY none _ a w _).trans ?_
  rw [← Equiv.sum_comp (contrEquiv1 dotY 512 rfl rfl).symm]
  refine Finset.sum_congr rfl fun f _ => ?_
  have hk := contrEquiv1_symm_val dotY 512 rfl rfl f
  refine congrArg₂ (fun a b : EReal => a * b) (congrArg a ?_) (congrArg w ?_)
  · funext a; apply Fin.ext
    match a with
    | ⟨0, _⟩ => rfl
    | ⟨1, _⟩ => rfl
    | ⟨2, _⟩ => exact hk
  · funext a; apply Fin.ext
    match a with
    | ⟨0, _⟩ => rfl
    | ⟨1, _⟩ => exact hk
    | ⟨2, _⟩ => rfl

theorem dotG_at (g : FVec Ideal S2048x8 .f32) (y : FVec Ideal S8x2048x768 .f32) (t : Fin 2048) (d : Fin 768) :
    Host.dotGeneral dotG none g y (ix2 t d) = ∑ e : Fin 8, (g (ix2 t e) : EReal) * y (ix3 e t d) := by
  refine (Ideal.dotGeneral_apply dotG none _ g y _).trans ?_
  rw [← Equiv.sum_comp (contrEquiv1 dotG 8 rfl rfl).symm]
  refine Finset.sum_congr rfl fun e _ => ?_
  have hk := contrEquiv1_symm_val dotG 8 rfl rfl e
  refine congrArg₂ (fun a b : EReal => a * b) (congrArg g ?_) (congrArg y ?_)
  · funext a; apply Fin.ext
    match a with
    | ⟨0, _⟩ => rfl
    | ⟨1, _⟩ => exact hk
  · funext a; apply Fin.ext
    match a with
    | ⟨0, _⟩ => exact hk
    | ⟨1, _⟩ => rfl
    | ⟨2, _⟩ => rfl

theorem rHid_at (w : FVec Ideal S8x768x512 .f32) (h : FVec Ideal S2048x768 .f32) (b : FVec Ideal S8x512 .f32) (e : Fin 8) (t : Fin 2048) (f : Fin 512) :
    rHid w h b (ix3 e t f) = ∑ d : Fin 768, (h (ix2 t d) : EReal) * w (ix3 e d f) + b (ix2 e f) := by
  refine congrArg₂ (fun a b : EReal => a + b) ((transpose_apply _ _ _ (ix3 e t f) (ix3 e f t) (fun b => by fin_cases b <;> rfl)).trans (dotH_at w h e f t)) ?_
  exact (broadcastInDim_apply _ _ _ _ (ix3 e 0 f) (fun a => by fin_cases a <;> rfl)).trans (broadcastInDim_apply _ _ _ _ (ix2 e f) (fun a => by fin_cases a <;> rfl))

theorem hneg_at {s : Shape} (a b : FVec Ideal s .f32) (k : s.Idx) : Host.erfc (mulf (Host.negf a) b) k = Ideal.erfc (-(a k : EReal) * b k) := rfl
theorem mul2_at {s : Shape} (a b c : FVec Ideal s .f32) (k : s.Idx) : mulf (mulf a b) c k = (a k : EReal) * b k * c k := rfl

theorem rAct_at (a : FVec Ideal S8x2048x512 .f32) (k : S8x2048x512.Idx) : rAct a k = gelu (a k) := by
  unfold rAct
  rw [mul2_at, hneg_at, broadcastInDim_scalar_apply bcast_S_S8x2048x512, broadcastInDim_scalar_apply bcast_S_S8x2048x512]
  exact gelu_neg (a k)

theorem rOut_at (w1 : FVec Ideal S8x768x512 .f32) (h : FVec Ideal S2048x768 .f32) (b1 : FVec Ideal S8x512 .f32) (w2 : FVec Ideal S8x512x768 .f32) (b2 : FVec Ideal S8x768 .f32)
    (e : Fin 8) (t : Fin 2048) (d : Fin 768) : rOut (rAct (rHid w1 h b1)) w2 b2 (ix3 e t d)
      = mlp (fun d => h (ix2 t d)) (fun d f => w1 (ix3 e d f)) (fun f => b1 (ix2 e f)) (fun f => w2 (ix3 e f d)) (b2 (ix2 e d)) := by
  refine congrArg₂ (fun a b : EReal => a + b) ((dotY_at _ w2 e t d).trans ?_) ?_
  · refine Finset.sum_congr rfl fun f _ => congrArg (fun y : EReal => y * (w2 (ix3 e f d) : EReal)) ?_
    exact (rAct_at _ _).trans (congrArg gelu (rHid_at w1 h b1 e t f))
  · exact (broadcastInDim_apply _ _ _ _ (ix3 e 0 d) (fun a => by fin_cases a <;> rfl)).trans (broadcastInDim_apply _ _ _ _ (ix2 e d) (fun a => by fin_cases a <;> rfl))

section
variable (V0 : Valuation τ sig (Elt Ideal))

/-- The arguments of the normalisations, the gate and the experts. -/
abbrev a5 : FVec Ideal S768 .f32 := V0 (Proc.devRef .tc main_arg5)
abbrev a6 : FVec Ideal S768 .f32 := V0 (Proc.devRef .tc main_arg6)
abbrev a7 : FVec Ideal S768x8 .f32 := V0 (Proc.devRef .tc main_arg7)
abbrev a8 : FVec Ideal S8x768x512 .f32 := V0 (Proc.devRef .tc main_arg8)
abbrev a9 : FVec Ideal S8x512 .f32 := V0 (Proc.devRef .tc main_arg9)
abbrev a10 : FVec Ideal S8x512x768 .f32 := V0 (Proc.devRef .tc main_arg10)
abbrev a11 : FVec Ideal S8x768 .f32 := V0 (Proc.devRef .tc main_arg11)
abbrev a12 : FVec Ideal S768 .f32 := V0 (Proc.devRef .tc main_arg12)
abbrev a13 : FVec Ideal S768 .f32 := V0 (Proc.devRef .tc main_arg13)

/-- The tokens after the first normalisation, and their logits. -/
def rH : FVec Ideal S2048x768 .f32 := rNorm (res_main_v23 V0) (a5 V0) (a6 V0)
def rL : FVec Ideal S2048x8 .f32 := res_main_v45 V0

theorem v44_at' (t : Fin 2048) (d : Fin 768) : res_main_v44 V0 (ix2 t d) = rH V0 (ix2 t d) := v44_at V0 t d
theorem rL_at (t : Fin 2048) (e : Fin 8) : rowOf (rL V0) t e = ∑ d : Fin 768, (rH V0 (ix2 t d) : EReal) * a7 V0 (ix2 d e) := by
  refine (dotL_at (res_main_v44 V0) (a7 V0) t e).trans ?_
  exact Finset.sum_congr rfl fun d _ => congrArg (fun y : EReal => y * (a7 V0 (ix2 d e) : EReal)) (v44_at' V0 t d)

theorem v94_eq : res_main_v94 V0 = shapeCast S2048x768 (addf (res_main_v43 V0) (shapeCast S1x2048x768 (Host.dotGeneral dotG none (rGate (rL V0))
    (rOut (rAct (rHid (a8 V0) (res_main_v44 V0) (a9 V0))) (a10 V0) (a11 V0))) shapeCasts_S2048x768_S1x2048x768)) shapeCasts_S1x2048x768_S2048x768 := rfl

theorem v94_at (t : Fin 2048) (d : Fin 768) (hf : ∀ e, Fin' (rowOf (rL V0) t e)) : res_main_v94 V0 (ix2 t d) = (rH V0 (ix2 t d) : EReal)
    + ∑ e : Fin 8, gate (rowOf (rL V0) t) (rnk (rL V0) t 0) (rnk (rL V0) t 1) e
      * mlp (fun d => rH V0 (ix2 t d)) (fun d f => a8 V0 (ix3 e d f)) (fun f => a9 V0 (ix2 e f)) (fun f => a10 V0 (ix3 e f d)) (a11 V0 (ix2 e d)) := by
  rw [v94_eq]
  refine (unlead_at _ t d).trans ?_
  refine congrArg₂ (fun a b : EReal => a + b) (v43_at V0 t d) ((lead_at _ t d).trans ((dotG_at _ _ t d).trans ?_))
  refine Finset.sum_congr rfl fun e _ => congrArg₂ (fun a b : EReal => a * b) (rGate_at _ t hf e) ((rOut_at _ _ _ _ _ e t d).trans ?_)
  exact congrArg (fun h => mlp h _ _ _ _) (funext fun d => v44_at' V0 t d)

end

end Cert.Proof.Val
-- ==== Proof.Eq.lean ====
/- The two results are the same block: the reference's reading and the kernel's, joined through the arguments. -/
module

public import proofs.«01_k».proof.Proof.KHost
public import proofs.«01_k».proof.Proof.RMoe

@[expose] public section

noncomputable section

namespace Cert.Proof.Val

open Idealize.ShloMosaic Idealize.ShloMosaic.ValueIdx Idealize.ShloMosaic.TcCoe

theorem scl_eq : scl = ((1 / 8 : ℝ) : EReal) := by
  simp [scl, Ideal.ofBits, Ideal.ieee, -EReal.coe_mul]; norm_num
theorem eight_eq : Ideal.ofBits .f32 0x41000000#32 = ((8 : ℝ) : EReal) := by
  simp [Ideal.ofBits, Ideal.ieee, -EReal.coe_mul]; norm_num
/-- The reference divides a score by eight where the kernel takes an eighth of it. -/
theorem eighth (s : EReal) : Ideal.div s (Ideal.ofBits .f32 0x41000000#32) = s * scl := by
  rw [eight_eq, scl_eq, Ideal.div_coe (by norm_num)]

variable (m : (ℓ : Loc Cert.KernelIdeal.nD Cert.KernelIdeal.τ Cert.KernelIdeal.sig) → Buf (Elt Ideal) ℓ) (c : Dev Cert.KernelIdeal.nD)
  (V : Valuation Cert.ReferenceIdeal.τ Cert.ReferenceIdeal.sig (Elt Ideal))

/-- The reference starts from the kernel's arguments. -/
structure Same : Prop where
  e0 : a0 V = k0 m c
  e1 : a1 V = k1 m c
  e2 : a2 V = k2 m c
  e3 : a3 V = k3 m c
  e4 : a4 V = k4 m c
  e5 : a5 V = k5 m c
  e6 : a6 V = k6 m c
  e7 : a7 V = k7 m c
  e8 : a8 V = k8 m c
  e9 : a9 V = k9 m c
  e10 : a10 V = k10 m c
  e11 : a11 V = k11 m c
  e12 : a12 V = k12 m c
  e13 : a13 V = k13 m c

/-- The arguments that the scores and the logits are made from are real numbers. -/
structure Reals : Prop where
  x : ∀ i, Fin' (k0 m c i)
  wq : ∀ i, Fin' (k1 m c i)
  wk : ∀ i, Fin' (k2 m c i)
  g1 : ∀ i, Fin' (k5 m c i)
  b1 : ∀ i, Fin' (k6 m c i)
  wg : ∀ i, Fin' (k7 m c i)

variable {m c V} (hs : Same m c V) (hr : Reals m c)
include hr

theorem kDot_fin (h : Fin 12) (t m' : Fin 2048) : Fin' (kDot (k0 m c) (k1 m c) (k2 m c) h t m') :=
  Fin'.sum _ fun _ => (Fin'.sum _ fun _ => (hr.x _).mul (hr.wq _)).mul (Fin'.sum _ fun _ => (hr.x _).mul (hr.wk _))

theorem kH_fin (t : Fin 2048) (d : Fin 768) : Fin' (kH m c t d) := bn_fin _ _ _ (hr.g1 _) (hr.b1 _) t
theorem kL_fin (t : Fin 2048) (e : Fin 8) : Fin' (kL m c t e) := Fin'.sum _ fun d => (kH_fin hr t d).mul (hr.wg _)

include hs

theorem z_same (t : Fin 2048) (d : Fin 768) : (Cert.ReferenceIdeal.Value.res_main_v23 V (ix2 t d) : EReal) = kZ m c d t := by
  refine (v23_at V t d).trans ?_
  rw [hs.e0, hs.e1, hs.e2, hs.e3, hs.e4]
  refine congrArg (fun y : EReal => (k0 m c (ix3 0 t d) : EReal) + y) (Finset.sum_congr rfl fun h _ => Finset.sum_congr rfl fun k _ =>
    congrArg (fun y : EReal => y * (k4 m c (ix3 h k d) : EReal)) ?_)
  have e : (fun m' => Ideal.div (rDot (k0 m c) (k1 m c) (k2 m c) h t m') (Ideal.ofBits .f32 0x41000000#32))
      = fun m' => kDot (k0 m c) (k1 m c) (k2 m c) h t m' * scl := funext fun m' => eighth _
  rw [e]
  exact head_eq _ _ fun m' => (kDot_fin hr h t m').mul (scl_eq ▸ ⟨_, rfl⟩)

theorem h_same (t : Fin 2048) (d : Fin 768) : (rH V (ix2 t d) : EReal) = kH m c t d := by
  refine (rNorm_at _ _ _ t d).trans ?_
  rw [hs.e5, hs.e6]
  exact congrArg (fun z => bn z (k5 m c (ix1 d)) (k6 m c (ix1 d)) t) (funext fun t => z_same hs hr t d)

theorem l_same (t : Fin 2048) : rowOf (rL V) t = kL m c t := by
  refine funext fun e => (rL_at V t e).trans ?_
  rw [hs.e7]
  exact Finset.sum_congr rfl fun d _ => congrArg (fun y : EReal => y * (k7 m c (ix2 d e) : EReal)) (h_same hs hr t d)

theorem moe_same (t : Fin 2048) (d : Fin 768) : (Cert.ReferenceIdeal.Value.res_main_v94 V (ix2 t d) : EReal)
    = kH m c t d + ∑ e : Fin 8, gate (kL m c t) (rnk (rL V) t 0) (rnk (rL V) t 1) e * kMlp m c t d e := by
  refine (v94_at V t d (fun e => (l_same hs hr t) ▸ kL_fin hr t e)).trans ?_
  rw [l_same hs hr t, hs.e8, hs.e9, hs.e10, hs.e11]
  refine congrArg₂ (fun a b : EReal => a + b) (h_same hs hr t d) (Finset.sum_congr rfl fun e _ =>
    congrArg (fun y : EReal => gate (kL m c t) (rnk (rL V) t 0) (rnk (rL V) t 1) e * y) ?_)
  exact mlp_congr (fun d => h_same hs hr t d) (fun _ _ => rfl) (fun _ => rfl) (fun _ => rfl) _

/-- The reference's result is the kernel's. -/
theorem same : (shapeCast Cert.ReferenceIdeal.S1x2048x768 (rNorm (Cert.ReferenceIdeal.Value.res_main_v94 V) (a12 V) (a13 V)) Cert.ReferenceIdeal.Gen.shapeCasts_S2048x768_S1x2048x768
    : FVec Ideal Cert.ReferenceIdeal.S1x2048x768 .f32) = Cert.Proof.KI.w4 m c Cert.KernelIdeal.main_v0 := by
  funext i
  obtain ⟨t, d, rfl⟩ : ∃ (t : Fin 2048) (d : Fin 768), i = ix3 0 t d := ⟨i 1, i 2, funext fun a => by
    match a with
    | ⟨0, _⟩ => exact Subsingleton.elim (α := Fin 1) _ _
    | ⟨1, _⟩ => rfl
    | ⟨2, _⟩ => rfl⟩
  have ht : ∀ t, Top2 (kL m c t) (rnk (rL V) t 0) (rnk (rL V) t 1) := fun t => (l_same hs hr t) ▸ (top2_sorted (rowOf (rL V) t))
  refine ((lead_at _ t d).trans (rNorm_at _ _ _ t d)).trans (Eq.trans ?_ (out_at m c (kL_fin hr) (fun t => rnk (rL V) t 0) (fun t => rnk (rL V) t 1) ht t d).symm)
  rw [hs.e12, hs.e13]
  exact congrArg (fun z => bn z (k12 m c (ix1 d)) (k13 m c (ix1 d)) t) (funext fun t => moe_same hs hr t d)

end Cert.Proof.Val
-- ==== Proof.Pre.lean ====
/- The precondition read back: the arguments it names are real numbers. -/
module

public import proofs.«01_k».proof.Pre_finite
public import proofs.«01_k».proof.Proof.Spec
public import Idealize.ShloMosaic.Lib.ReduceAll
public import Idealize.ShloMosaic.Lib.KernelVsHost

@[expose] public section

noncomputable section

namespace Cert.Proof.Val

open Cert.Pre_finite
open Idealize.ShloMosaic Idealize.ShloMosaic.ValueIdx

/-- The side conditions of the precondition's operations. -/
theorem preFacts : Cert.Pre_finite.Facts where
  bcast_S_S1x2048x768 := by decide
  reducesTo_S1x2048x768_S_d0_1_2 := by decide
  h_S_ := by decide
  bcast_S_S12x768x64 := by decide
  reducesTo_S12x768x64_S_d0_1_2 := by decide
  bcast_S_S768 := by decide
  reducesTo_S768_S_d0 := by decide
  bcast_S_S768x8 := by decide
  reducesTo_S768x8_S_d0_1 := by decide

instance : Subsingleton S_.Idx := ⟨fun _ _ => funext fun a => Fin.elim0 a⟩

/-- A value whose absolute value is below infinity is a real number. -/
theorem real_of_abs (x : EReal) (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  have hlt : max x (-x) < ⊤ := by
    by_contra hn
    simp [Ideal.cmp, hn] at h
  refine fin'_of (fun e => ?_) (fun e => ?_) <;> subst e <;> simp at hlt

/-- An array of which "every absolute value is below infinity" computes to one holds real numbers only. -/
theorem real_of_all {s : Shape} {axes : List (Fin s.rank)} (x : FVec Ideal s .f32) (hb : S_.BroadcastsInDim s ![]) (hr : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) hr hu j = 1#1)
    (i : s.Idx) : Fin' (x i) :=
  real_of_abs (x i) (Host.reduce_andi_all _ _ hr hu j e i)

theorem and_at {a b : IVec S_ 1} {j : S_.Idx} (h : andi a b j = 1#1) : a j = 1#1 ∧ b j = 1#1 := IntOp.andi_eq_one.mp h

theorem real_args (x : FVec Ideal S1x2048x768 .f32) (wq wk wv : FVec Ideal S12x768x64 .f32) (wo : FVec Ideal S12x64x768 .f32) (g1 b1 : FVec Ideal S768 .f32)
    (wg : FVec Ideal S768x8 .f32) (w1 : FVec Ideal S8x768x512 .f32) (c1 : FVec Ideal S8x512 .f32) (w2 : FVec Ideal S8x512x768 .f32) (c2 : FVec Ideal S8x768 .f32)
    (g2 b2 : FVec Ideal S768 .f32) (h : @fn preFacts Ideal _ x wq wk wv wo g1 b1 wg w1 c1 w2 c2 g2 b2 = fun _ => 1#1) :
    (∀ i, Fin' (x i)) ∧ (∀ i, Fin' (wq i)) ∧ (∀ i, Fin' (wk i)) ∧ (∀ i, Fin' (g1 i)) ∧ (∀ i, Fin' (b1 i)) ∧ (∀ i, Fin' (wg i)) := by
  let j : S_.Idx := fun a => Fin.elim0 a
  have h0 := congrFun h j
  unfold fn at h0
  unfold fn_part1 at h0
  dsimp only at h0
  obtain ⟨h1, e6⟩ := and_at h0
  obtain ⟨h2, e5⟩ := and_at h1
  obtain ⟨h3, e4⟩ := and_at h2
  obtain ⟨h4, e3⟩ := and_at h3
  obtain ⟨e1, e2⟩ := and_at h4
  exact ⟨real_of_all x _ _ _ j e1, real_of_all wq _ _ _ j e2, real_of_all wk _ _ _ j e3, real_of_all g1 _ _ _ j e4, real_of_all b1 _ _ _ j e5, real_of_all wg _ _ _ j e6⟩

end Cert.Proof.Val
-- ==== Proof.lean ====
module

public import proofs.«01_k».proof.Defs
public import proofs.«01_k».proof.Proof.BitsRun
public import proofs.«01_k».proof.Proof.Run
public import proofs.«01_k».proof.Proof.Eq
public import proofs.«01_k».proof.Proof.Pre
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference has no semaphore. -/
theorem no_sem {α : Prop} (x : GSem Cert.ReferenceIdeal.nD Cert.ReferenceIdeal.τ Cert.ReferenceIdeal.sig) : α := by
  obtain ⟨_, s⟩ := x
  cases s with
  | reg s => exact s.elim0
  | dma s => exact s.elim0

/-- The precondition makes the arguments it names real. -/
theorem reals_of_pre (m : (ℓ : Loc Cert.KernelIdeal.nD Cert.KernelIdeal.τ Cert.KernelIdeal.sig) → Buf (Elt Ideal) ℓ)
    (h : Cert.Pre_KernelIdeal_finite (hPre_finite := Val.preFacts) m) (c : Dev Cert.KernelIdeal.nD) : Val.Reals m c := by
  obtain ⟨h0, h1, h2, h5, h6, h7⟩ := Val.real_args _ _ _ _ _ _ _ _ _ _ _ _ _ _ (h c)
  exact ⟨h0, h1, h2, h5, h6, h7⟩

theorem frame_KI : Cert.quiescent_KernelIdeal (hKernelIdeal := Cert.KernelIdeal.Gen.facts) :=
  fun m g _ => (θ_run Cert.KernelIdeal.defs _ _).mono (fun _ h => ⟨fun c => (h.1 c).2, h.2⟩) (KI.run (F := Ideal) m g)
theorem frame_RI : Cert.quiescent_ReferenceIdeal (hReferenceIdeal := Cert.ReferenceIdeal.Gen.facts) :=
  fun m g _ => (θ_run Cert.ReferenceIdeal.defs _ _).mono (fun _ h => ⟨fun c => (h c).2, funext fun x => no_sem x⟩) (Cert.ReferenceIdeal.Value.run (F := Ideal) m g)

/-- The idealized kernel and the reference compute the same result. -/
theorem value : Cert.algebraic_KernelIdeal_ReferenceIdeal_pre_finite (hKernelIdeal := Cert.KernelIdeal.Gen.facts)
    (hReferenceIdeal := Cert.ReferenceIdeal.Gen.facts) (hPre_finite := Val.preFacts) := by
  intro m g m' g' hp ha
  refine ⟨fun c => KI.w4 m c (Proc.devRef .tc Cert.KernelIdeal.main_v0), (θ_run Cert.KernelIdeal.defs _ _).mono (fun _ h => h.1) (KI.run (F := Ideal) m g), ?_⟩
  refine (θ_run Cert.ReferenceIdeal.defs _ _).mono ?_ (Cert.ReferenceIdeal.Value.run (F := Ideal) m' g')
  intro r h c
  obtain ⟨e0, e1, e2, e3, e4, e5, e6, e7, e8, e9, e10, e11, e12, e13⟩ := ha c
  have hs : Val.Same m c (StableHlo.launchContents m' c) := ⟨e0, e1, e2, e3, e4, e5, e6, e7, e8, e9, e10, e11, e12, e13⟩
  exact ⟨(h c).1.trans (Val.same hs (reals_of_pre m hp c)), (h c).2⟩

theorem claim : Cert.Claim := ⟨Cert.Kernel.Gen.facts, Cert.KernelIdeal.Gen.facts, Cert.ReferenceIdeal.Gen.facts, Val.preFacts,
  fun m g _ => (θ_run Cert.Kernel.defs _ _).mono (fun _ h => ⟨fun c => (h.1 c).2, h.2⟩) (K.run (F := Bits) m g),
  frame_KI, fun m g _ => frame_KI m g trivial, frame_RI, fun m g _ => frame_RI m g trivial,
  IdealRules.named_const.statement _ _ _ _ _ rfl, value⟩

end Cert.Proof

end
